-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .bf16) (main_arg1 : FVec F S512x512 .bf16) (main_arg2 : FVec F S512x512 .bf16) (main_arg3 : FVec F S512x512 .bf16) (main_arg4 : FVec F S512x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x512 .f32 := (extf .f32 · bitsLt_bf16_f32) main_arg1
  let main_v6 : FVec F S512x512 .f32 := Host.absf main_v5
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  let main_c_1 : IVec S_ 1 := constantI S_ 1 1#1
  let main_v9 : IVec S_ 1 := (fun x v => Host.reduce IntOp.andi x v reducesTo_S512x512_S_d0_1 h_S_) main_v8 main_c_1
  let main_v10 : IVec S_ 1 := andi main_v4 main_v9
  let main_v11 : FVec F S512x512 .f32 := (extf .f32 · bitsLt_bf16_f32) main_arg2
  let main_v12 : FVec F S512x512 .f32 := Host.absf main_v11
  let main_cst_2 : FVec F S_ .f32 := constant S_ .f32 0x7F800000#32
  let main_v13 : FVec F S512x512 .f32 := broadcastInDim S512x512 ![] bcast_S_S512x512 main_cst_2
  let main_v14 : IVec S512x512 1 := cmpf .olt main_v12 main_v13
  let main_c_3 : IVec S_ 1 := constantI S_ 1 1#1
  let main_v15 : IVec S_ 1 := (fun x v => Host.reduce IntOp.andi x v reducesTo_S512x512_S_d0_1 h_S_) main_v14 main_c_3
  let main_v16 : IVec S_ 1 := andi main_v10 main_v15
  main_v16
-- ==== Pre_finite_ReferenceIdeal.lean ====
abbrev S32x128x512 : Shape := ⟨3, ![32, 128, 512]⟩
abbrev S512x8192 : Shape := ⟨2, ![512, 8192]⟩
abbrev S8192x512 : Shape := ⟨2, ![8192, 512]⟩
abbrev S_ : Shape := ⟨0, ![]⟩

class Facts : Prop where
  bitsLt_bf16_f32 : FTy.bits .bf16 < FTy.bits .f32
  bcast_S_S32x128x512 : S_.BroadcastsInDim S32x128x512 (![] : Fin 0 → Fin S32x128x512.rank)
  reducesTo_S32x128x512_S_d0_1_2 : S32x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S32x128x512 .bf16) (main_arg1 : FVec F S512x8192 .bf16) (main_arg2 : FVec F S512x8192 .bf16) (main_arg3 : FVec F S512x8192 .bf16) (main_arg4 : FVec F S8192x512 .bf16) : IVec S_ 1 :=
  let main_v0 : FVec F S32x128x512 .f32 := (extf .f32 · bitsLt_bf16_f32) main_arg0
  let main_v1 : FVec F S32x128x512 .f32 := Host.absf main_v0
  let main_cst : FVec F S_ .f32 := constant S_ .f32 0x7F800000#32
  let main_v2 : FVec F S32x128x512 .f32 := broadcastInDim S32x128x512 ![] bcast_S_S32x128x512 main_cst
  let main_v3 : IVec S32x128x512 1 := cmpf .olt main_v1 main_v2
  let main_c : IVec S_ 1 := constantI S_ 1 1#1
  let main_v4 : IVec S_ 1 := (fun x v => Host.reduce IntOp.andi x v reducesTo_S32x128x512_S_d0_1_2 h_S_) main_v3 main_c
  let main_v5 : FVec F S512x8192 .f32 := (extf .f32 · bitsLt_bf16_f32) main_arg1
  let main_v6 : FVec F S512x8192 .f32 := Host.absf main_v5
  let main_cst_0 : FVec F S_ .f32 := constant S_ .f32 0x7F800000#32
  let main_v7 : FVec F S512x8192 .f32 := broadcastInDim S512x8192 ![] bcast_S_S512x8192 main_cst_0
  let main_v8 : IVec S512x8192 1 := cmpf .olt main_v6 main_v7
  let main_c_1 : IVec S_ 1 := constantI S_ 1 1#1
  let main_v9 : IVec S_ 1 := (fun x v => Host.reduce IntOp.andi x v reducesTo_S512x8192_S_d0_1 h_S_) main_v8 main_c_1
  let main_v10 : IVec S_ 1 := andi main_v4 main_v9
  let main_v11 : FVec F S512x8192 .f32 := (extf .f32 · bitsLt_bf16_f32) main_arg2
  let main_v12 : FVec F S512x8192 .f32 := Host.absf main_v11
  let main_cst_2 : FVec F S_ .f32 := constant S_ .f32 0x7F800000#32
  let main_v13 : FVec F S512x8192 .f32 := broadcastInDim S512x8192 ![] bcast_S_S512x8192 main_cst_2
  let main_v14 : IVec S512x8192 1 := cmpf .olt main_v12 main_v13
  let main_c_3 : IVec S_ 1 := constantI S_ 1 1#1
  let main_v15 : IVec S_ 1 := (fun x v => Host.reduce IntOp.andi x v reducesTo_S512x8192_S_d0_1 h_S_) main_v14 main_c_3
  let main_v16 : IVec S_ 1 := andi main_v10 main_v15
  main_v16
-- ==== Kernel.lean ====
abbrev S2x128x512 : Shape := ⟨3, ![2, 128, 512]⟩
abbrev S512x512 : Shape := ⟨2, ![512, 512]⟩
abbrev S16x2x128x512 : Shape := ⟨4, ![16, 2, 128, 512]⟩
abbrev S15x2x128x512 : Shape := ⟨4, ![15, 2, 128, 512]⟩
abbrev S15 : Shape := ⟨1, ![15]⟩
abbrev S_ : Shape := ⟨0, ![]⟩
abbrev S1x2x128x512 : Shape := ⟨4, ![1, 2, 128, 512]⟩
abbrev S1 : Shape := ⟨1, ![1]⟩
abbrev S256x512 : Shape := ⟨2, ![256, 512]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .f32⟩
  | .local _ .vmem, ⟨6, _⟩ => ⟨S16x2x128x512, .bf16⟩
  | .local _ .vmem, ⟨7, _⟩ => ⟨S16x2x128x512, .f32⟩
  | .local _ .vmem, ⟨8, _⟩ => ⟨S15x2x128x512, .bf16⟩
  | .local _ .vmem, ⟨9, _⟩ => ⟨S15x2x128x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_16 : BitVec 32 := 1#32
  let v33 : BitVec 32 := Scalar.subi v32 c1_i32_16
  let c16_i32_17 : BitVec 32 := 16#32
  let v34 : BitVec 32 := Scalar.addi v33 c16_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c4_i32_49 : BitVec 32 := 4#32
  let c14_i32_46 : BitVec 32 := 14#32
  let v62 : BitVec 1 := Scalar.cmpi .eq v35 c14_i32_46
  let c8_i32_47 : BitVec 32 := 8#32
  let c13_i32_44 : BitVec 32 := 13#32
  let v60 : BitVec 1 := Scalar.cmpi .eq v35 c13_i32_44
  let c12_i32_45 : BitVec 32 := 12#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c15_i32_39 : BitVec 32 := 15#32
  let c9_i32_36 : BitVec 32 := 9#32
  let v52 : BitVec 1 := Scalar.cmpi .eq v35 c9_i32_36
  let c11_i32_37 : BitVec 32 := 11#32
  let c8_i32_34 : BitVec 32 := 8#32
  let v50 : BitVec 1 := Scalar.cmpi .eq v35 c8_i32_34
  let c10_i32_35 : BitVec 32 := 10#32
  let c7_i32_32 : BitVec 32 := 7#32
  let v48 : BitVec 1 := Scalar.cmpi .eq v35 c7_i32_32
  let c9_i32_33 : BitVec 32 := 9#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c6_i32_29 : BitVec 32 := 6#32
  let c4_i32_26 : BitVec 32 := 4#32
  let v42 : BitVec 1 := Scalar.cmpi .eq v35 c4_i32_26
  let c7_i32_27 : BitVec 32 := 7#32
  let c3_i32_24 : BitVec 32 := 3#32
  let v40 : BitVec 1 := Scalar.cmpi .eq v35 c3_i32_24
  let c3_i32_25 : BitVec 32 := 3#32
  let c2_i32_22 : BitVec 32 := 2#32
  let v38 : BitVec 1 := Scalar.cmpi .eq v35 c2_i32_22
  let c2_i32_23 : BitVec 32 := 2#32
  let c1_i32_19 : BitVec 32 := 1#32
  let v36 : BitVec 1 := Scalar.cmpi .eq v35 c1_i32_19
  let c1_i32_20 : BitVec 32 := 1#32
  let c0_i32_21 : BitVec 32 := 0#32
  let v37 : BitVec 32 := Scalar.select v36 c1_i32_20 c0_i32_21
  let v39 : BitVec 32 := Scalar.select v38 c2_i32_23 v37
  let v41 : BitVec 32 := Scalar.select v40 c3_i32_25 v39
  let v43 : BitVec 32 := Scalar.select v42 c7_i32_27 v41
  let v45 : BitVec 32 := Scalar.select v44 c6_i32_29 v43
  let v47 : BitVec 32 := Scalar.select v46 c5_i32_31 v45
  let v49 : BitVec 32 := Scalar.select v48 c9_i32_33 v47
  let v51 : BitVec 32 := Scalar.select v50 c10_i32_35 v49
  let v53 : BitVec 32 := Scalar.select v52 c11_i32_37 v51
  let v55 : BitVec 32 := Scalar.select v54 c15_i32_39 v53
  let v57 : BitVec 32 := Scalar.select v56 c14_i32_41 v55
  let v59 : BitVec 32 := Scalar.select v58 c13_i32_43 v57
  let v61 : BitVec 32 := Scalar.select v60 c12_i32_45 v59
  let v63 : BitVec 32 := Scalar.select v62 c8_i32_47 v61
  let v65 : BitVec 32 := Scalar.select v64 c4_i32_49 v63
  let c1_i32_84 : BitVec 32 := 1#32
  let v99 : BitVec 32 := Scalar.muli v65 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_87 : BitVec 32 := 1#32
  let v101 : BitVec 32 := Scalar.muli v97 c1_i32_87
  let v102 : BitVec 32 := Scalar.addi c0_i32_88 v101
  v102.toNat
def k0_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_116 : BitVec 32 := 1#32
  let v128 : BitVec 32 := Scalar.muli v97 c1_i32_116
  let v129 : BitVec 32 := Scalar.addi c0_i32_117 v128
  v129.toNat
def k0_dev4 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_239 : BitVec 32 := 1#32
  let v440 : BitVec 32 := Scalar.muli v97 c1_i32_239
  let v441 : BitVec 32 := Scalar.addi c0_i32_240 v440
  v441.toNat
def k0_dev5 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_358 : BitVec 32 := 1#32
  let v750 : BitVec 32 := Scalar.muli v97 c1_i32_358
  let v751 : BitVec 32 := Scalar.addi c0_i32_359 v750
  v751.toNat
def k0_dev6 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_382 : BitVec 32 := 1#32
  let v768 : BitVec 32 := Scalar.muli v97 c1_i32_382
  let v769 : BitVec 32 := Scalar.addi c0_i32_383 v768
  v769.toNat
def k0_dev7 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_517 : BitVec 32 := 1#32
  let v1090 : BitVec 32 := Scalar.muli v97 c1_i32_517
  let v1091 : BitVec 32 := Scalar.addi c0_i32_518 v1090
  v1091.toNat
def k0_dev8 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_541 : BitVec 32 := 1#32
  let v1108 : BitVec 32 := Scalar.muli v97 c1_i32_541
  let v1109 : BitVec 32 := Scalar.addi c0_i32_542 v1108
  v1109.toNat
def k0_dev9 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_676 : BitVec 32 := 1#32
  let v1430 : BitVec 32 := Scalar.muli v97 c1_i32_676
  let v1431 : BitVec 32 := Scalar.addi c0_i32_677 v1430
  v1431.toNat
def k0_dev10 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_700 : BitVec 32 := 1#32
  let v1448 : BitVec 32 := Scalar.muli v97 c1_i32_700
  let v1449 : BitVec 32 := Scalar.addi c0_i32_701 v1448
  v1449.toNat
def k0_dev11 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_835 : BitVec 32 := 1#32
  let v1770 : BitVec 32 := Scalar.muli v97 c1_i32_835
  let v1771 : BitVec 32 := Scalar.addi c0_i32_836 v1770
  v1771.toNat
def k0_dev12 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_859 : BitVec 32 := 1#32
  let v1788 : BitVec 32 := Scalar.muli v97 c1_i32_859
  let v1789 : BitVec 32 := Scalar.addi c0_i32_860 v1788
  v1789.toNat
def k0_dev13 (d0 : Dev nD) : Nat :=
  let c0_i32_995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_994 : BitVec 32 := 1#32
  let v2110 : BitVec 32 := Scalar.muli v97 c1_i32_994
  let v2111 : BitVec 32 := Scalar.addi c0_i32_995 v2110
  v2111.toNat
def k0_dev14 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1018 : BitVec 32 := 1#32
  let v2128 : BitVec 32 := Scalar.muli v97 c1_i32_1018
  let v2129 : BitVec 32 := Scalar.addi c0_i32_1019 v2128
  v2129.toNat
def k0_dev15 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1153 : BitVec 32 := 1#32
  let v2450 : BitVec 32 := Scalar.muli v97 c1_i32_1153
  let v2451 : BitVec 32 := Scalar.addi c0_i32_1154 v2450
  v2451.toNat
def k0_dev16 (d0 : Dev nD) : Nat :=
  let c0_i32_1178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1177 : BitVec 32 := 1#32
  let v2468 : BitVec 32 := Scalar.muli v97 c1_i32_1177
  let v2469 : BitVec 32 := Scalar.addi c0_i32_1178 v2468
  v2469.toNat
def k0_dev17 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1312 : BitVec 32 := 1#32
  let v2790 : BitVec 32 := Scalar.muli v97 c1_i32_1312
  let v2791 : BitVec 32 := Scalar.addi c0_i32_1313 v2790
  v2791.toNat
def k0_dev18 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1336 : BitVec 32 := 1#32
  let v2808 : BitVec 32 := Scalar.muli v97 c1_i32_1336
  let v2809 : BitVec 32 := Scalar.addi c0_i32_1337 v2808
  v2809.toNat
def k0_dev19 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1471 : BitVec 32 := 1#32
  let v3130 : BitVec 32 := Scalar.muli v97 c1_i32_1471
  let v3131 : BitVec 32 := Scalar.addi c0_i32_1472 v3130
  v3131.toNat
def k0_dev20 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1495 : BitVec 32 := 1#32
  let v3148 : BitVec 32 := Scalar.muli v97 c1_i32_1495
  let v3149 : BitVec 32 := Scalar.addi c0_i32_1496 v3148
  v3149.toNat
def k0_dev21 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1630 : BitVec 32 := 1#32
  let v3470 : BitVec 32 := Scalar.muli v97 c1_i32_1630
  let v3471 : BitVec 32 := Scalar.addi c0_i32_1631 v3470
  v3471.toNat
def k0_dev22 (d0 : Dev nD) : Nat :=
  let c0_i32_1655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1654 : BitVec 32 := 1#32
  let v3488 : BitVec 32 := Scalar.muli v97 c1_i32_1654
  let v3489 : BitVec 32 := Scalar.addi c0_i32_1655 v3488
  v3489.toNat
def k0_dev23 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1789 : BitVec 32 := 1#32
  let v3810 : BitVec 32 := Scalar.muli v97 c1_i32_1789
  let v3811 : BitVec 32 := Scalar.addi c0_i32_1790 v3810
  v3811.toNat
def k0_dev24 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1813 : BitVec 32 := 1#32
  let v3828 : BitVec 32 := Scalar.muli v97 c1_i32_1813
  let v3829 : BitVec 32 := Scalar.addi c0_i32_1814 v3828
  v3829.toNat
def k0_dev25 (d0 : Dev nD) : Nat :=
  let c0_i32_1949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1948 : BitVec 32 := 1#32
  let v4150 : BitVec 32 := Scalar.muli v97 c1_i32_1948
  let v4151 : BitVec 32 := Scalar.addi c0_i32_1949 v4150
  v4151.toNat
def k0_dev26 (d0 : Dev nD) : Nat :=
  let c0_i32_1973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_1972 : BitVec 32 := 1#32
  let v4168 : BitVec 32 := Scalar.muli v97 c1_i32_1972
  let v4169 : BitVec 32 := Scalar.addi c0_i32_1973 v4168
  v4169.toNat
def k0_dev27 (d0 : Dev nD) : Nat :=
  let c0_i32_2108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_2107 : BitVec 32 := 1#32
  let v4490 : BitVec 32 := Scalar.muli v97 c1_i32_2107
  let v4491 : BitVec 32 := Scalar.addi c0_i32_2108 v4490
  v4491.toNat
def k0_dev28 (d0 : Dev nD) : Nat :=
  let c0_i32_2132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_2131 : BitVec 32 := 1#32
  let v4508 : BitVec 32 := Scalar.muli v97 c1_i32_2131
  let v4509 : BitVec 32 := Scalar.addi c0_i32_2132 v4508
  v4509.toNat
def k0_dev29 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_2266 : BitVec 32 := 1#32
  let v4830 : BitVec 32 := Scalar.muli v97 c1_i32_2266
  let v4831 : BitVec 32 := Scalar.addi c0_i32_2267 v4830
  v4831.toNat
def k0_dev30 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_2290 : BitVec 32 := 1#32
  let v4848 : BitVec 32 := Scalar.muli v97 c1_i32_2290
  let v4849 : BitVec 32 := Scalar.addi c0_i32_2291 v4848
  v4849.toNat
def k0_dev31 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_2425 : BitVec 32 := 1#32
  let v5170 : BitVec 32 := Scalar.muli v97 c1_i32_2425
  let v5171 : BitVec 32 := Scalar.addi c0_i32_2426 v5170
  v5171.toNat
def k0_dev32 (d0 : Dev nD) : Nat :=
  let c0_i32_2573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c10_i32_15 : BitVec 32 := 10#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c9_i32_9 : BitVec 32 := 9#32
  let c10_i32 : BitVec 32 := 10#32
  let v21 : BitVec 1 := Scalar.cmpi .eq v2 c10_i32
  let c8_i32_8 : BitVec 32 := 8#32
  let c9_i32 : BitVec 32 := 9#32
  let v19 : BitVec 1 := Scalar.cmpi .eq v2 c9_i32
  let c7_i32_7 : BitVec 32 := 7#32
  let c8_i32 : BitVec 32 := 8#32
  let v17 : BitVec 1 := Scalar.cmpi .eq v2 c8_i32
  let c14_i32 : BitVec 32 := 14#32
  let c7_i32 : BitVec 32 := 7#32
  let v15 : BitVec 1 := Scalar.cmpi .eq v2 c7_i32
  let c4_i32_6 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c15_i32 v8
  let v12 : BitVec 32 := Scalar.select v11 c6_i32 v10
  let v14 : BitVec 32 := Scalar.select v13 c5_i32_5 v12
  let v16 : BitVec 32 := Scalar.select v15 c4_i32_6 v14
  let v18 : BitVec 32 := Scalar.select v17 c14_i32 v16
  let v20 : BitVec 32 := Scalar.select v19 c7_i32_7 v18
  let v22 : BitVec 32 := Scalar.select v21 c8_i32_8 v20
  let v24 : BitVec 32 := Scalar.select v23 c9_i32_9 v22
  let v26 : BitVec 32 := Scalar.select v25 c13_i32 v24
  let v28 : BitVec 32 := Scalar.select v27 c12_i32_11 v26
  let v30 : BitVec 32 := Scalar.select v29 c11_i32_13 v28
  let v32 : BitVec 32 := Scalar.select v31 c10_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c15_i32_72 : BitVec 32 := 15#32
  let c9_i32_69 : BitVec 32 := 9#32
  let v84 : BitVec 1 := Scalar.cmpi .eq v67 c9_i32_69
  let c11_i32_70 : BitVec 32 := 11#32
  let c8_i32_67 : BitVec 32 := 8#32
  let v82 : BitVec 1 := Scalar.cmpi .eq v67 c8_i32_67
  let c10_i32_68 : BitVec 32 := 10#32
  let c7_i32_65 : BitVec 32 := 7#32
  let v80 : BitVec 1 := Scalar.cmpi .eq v67 c7_i32_65
  let c9_i32_66 : BitVec 32 := 9#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c6_i32_62 : BitVec 32 := 6#32
  let c4_i32_59 : BitVec 32 := 4#32
  let v74 : BitVec 1 := Scalar.cmpi .eq v67 c4_i32_59
  let c7_i32_60 : BitVec 32 := 7#32
  let c3_i32_57 : BitVec 32 := 3#32
  let v72 : BitVec 1 := Scalar.cmpi .eq v67 c3_i32_57
  let c3_i32_58 : BitVec 32 := 3#32
  let c2_i32_55 : BitVec 32 := 2#32
  let v70 : BitVec 1 := Scalar.cmpi .eq v67 c2_i32_55
  let c2_i32_56 : BitVec 32 := 2#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c2_i32_56 v69
  let v73 : BitVec 32 := Scalar.select v72 c3_i32_58 v71
  let v75 : BitVec 32 := Scalar.select v74 c7_i32_60 v73
  let v77 : BitVec 32 := Scalar.select v76 c6_i32_62 v75
  let v79 : BitVec 32 := Scalar.select v78 c5_i32_64 v77
  let v81 : BitVec 32 := Scalar.select v80 c9_i32_66 v79
  let v83 : BitVec 32 := Scalar.select v82 c10_i32_68 v81
  let v85 : BitVec 32 := Scalar.select v84 c11_i32_70 v83
  let v87 : BitVec 32 := Scalar.select v86 c15_i32_72 v85
  let v89 : BitVec 32 := Scalar.select v88 c14_i32_74 v87
  let v91 : BitVec 32 := Scalar.select v90 c13_i32_76 v89
  let v93 : BitVec 32 := Scalar.select v92 c12_i32_78 v91
  let v95 : BitVec 32 := Scalar.select v94 c8_i32_80 v93
  let v97 : BitVec 32 := Scalar.select v96 c4_i32_82 v95
  let c1_i32_2572 : BitVec 32 := 1#32
  let v5500 : BitVec 32 := Scalar.muli v97 c1_i32_2572
  let v5501 : BitVec 32 := Scalar.addi c0_i32_2573 v5500
  v5501.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x128x512 : Shape := ⟨3, ![32, 128, 512]⟩
abbrev S512x8192 : Shape := ⟨2, ![512, 8192]⟩
abbrev S8192x512 : Shape := ⟨2, ![8192, 512]⟩
abbrev S32x128x8192 : Shape := ⟨3, ![32, 128, 8192]⟩
abbrev S32x128x128x64 : Shape := ⟨4, ![32, 128, 128, 64]⟩
abbrev S_ : Shape := ⟨0, ![]⟩
abbrev S32x128x128x1 : Shape := ⟨4, ![32, 128, 128, 1]⟩
abbrev S32x128x128x128 : Shape := ⟨4, ![32, 128, 128, 128]⟩
abbrev S32x128x128 : Shape := ⟨3, ![32, 128, 128]⟩
abbrev S32x128x64x128 : Shape := ⟨4, ![32, 128, 64, 128]⟩

abbrev nBuf : Space → Nat
  | .hbm => 53
  | .vmem => 0
  | .smem => 0
  | _ => 0

abbrev bufTy : (tb : Table) → Fin (tcTables nBuf tb) → BufTy
  | .hbm, ⟨0, _⟩ => ⟨S32x128x512, .bf16⟩
  | .hbm, ⟨1, _⟩ => ⟨S512x8192, .bf16⟩
  | .hbm, ⟨2, _⟩ => ⟨S512x8192, .bf16⟩
  | .hbm, ⟨3, _⟩ => ⟨S512x8192, .bf16⟩
  | .hbm, ⟨4, _⟩ => ⟨S8192x512, .bf16⟩
  | .hbm, ⟨5, _⟩ => ⟨S32x128x8192, .f32⟩
  | .hbm, ⟨6, _⟩ => ⟨S32x128x8192, .bf16⟩
  | .hbm, ⟨7, _⟩ => ⟨S32x128x128x64, .bf16⟩
  | .hbm, ⟨8, _⟩ => ⟨S32x128x8192, .f32⟩
  | .hbm, ⟨9, _⟩ => ⟨S32x128x8192, .bf16⟩
  | .hbm, ⟨10, _⟩ => ⟨S32x128x128x64, .bf16⟩
  | .hbm, ⟨11, _⟩ => ⟨S32x128x8192, .f32⟩
  | .hbm, ⟨12, _⟩ => ⟨S32x128x8192, .bf16⟩
  | .hbm, ⟨13, _⟩ => ⟨S32x128x128x64, .bf16⟩
  | .hbm, ⟨14, _⟩ => ⟨S_, .f32⟩
  | .hbm, ⟨15, _⟩ => ⟨S32x128x128x64, .f32⟩
  | .hbm, ⟨16, _⟩ => ⟨S_, .f32⟩
  | .hbm, ⟨17, _⟩ => ⟨S32x128x128x1, .f32⟩
  | .hbm, ⟨18, _⟩ => ⟨S_, .f32⟩
  | .hbm, ⟨19, _⟩ => ⟨S32x128x128x1, .f32⟩
  | .hbm, ⟨20, _⟩ => ⟨S32x128x128x128, .f32⟩
  | .hbm, ⟨21, _⟩ => ⟨S32x128x128x128, .bf16⟩
  | .hbm, ⟨22, _⟩ => ⟨S32x128x128x128, .f32⟩
  | .hbm, ⟨23, _⟩ => ⟨S_, .f32⟩
  | .hbm, ⟨24, _⟩ => ⟨S32x128x128x128, .f32⟩
  | .hbm, ⟨25, _⟩ => ⟨S32x128x128x128, .f32⟩
  | .hbm, ⟨26, _⟩ => ⟨S_, .f32⟩
  | .hbm, ⟨27, _⟩ => ⟨S32x128x128, .f32⟩
  | .hbm, ⟨28, _⟩ => ⟨S32x128x128x1, .f32⟩
  | .hbm, ⟨29, _⟩ => ⟨S32x128x128x1, .f32⟩
  | .hbm, ⟨30, _⟩ => ⟨S32x128x128x1, .f32⟩
  | .hbm, ⟨31, _⟩ => ⟨S32x128x128x1, .f32⟩
  | .hbm, ⟨32, _⟩ => ⟨S32x128x128x128, .f32⟩
  | .hbm, ⟨33, _⟩ => ⟨S32x128x128x128, .f32⟩
  | .hbm, ⟨34, _⟩ => ⟨S32x128x128x128, .f32⟩
  | .hbm, ⟨35, _⟩ => ⟨S32x128x128x1, .f32⟩
  | .hbm, ⟨36, _⟩ => ⟨S_, .f32⟩
  | .hbm, ⟨37, _⟩ => ⟨S32x128x128, .f32⟩
  | .hbm, ⟨38, _⟩ => ⟨S32x128x128x1, .f32⟩
  | .hbm, ⟨39, _⟩ => ⟨S32x128x128x1, .f32⟩
  | .hbm, ⟨40, _⟩ => ⟨S32x128x128x1, .f32⟩
  | .hbm, ⟨41, _⟩ => ⟨S32x128x128x64, .f32⟩
  | .hbm, ⟨42, _⟩ => ⟨S32x128x128x64, .f32⟩
  | .hbm, ⟨43, _⟩ => ⟨S32x128x128x64, .f32⟩
  | .hbm, ⟨44, _⟩ => ⟨S32x128x64x128, .f32⟩
  | .hbm, ⟨45, _⟩ => ⟨S32x128x128x64, .f32⟩
  | .hbm, ⟨46, _⟩ => ⟨S32x128x128x64, .f32⟩
  | .hbm, ⟨47, _⟩ => ⟨S32x128x128x1, .f32⟩
  | .hbm, ⟨48, _⟩ => ⟨S32x128x128x64, .f32⟩
  | .hbm, ⟨49, _⟩ => ⟨S32x128x128x64, .f32⟩
  | .hbm, ⟨50, _⟩ => ⟨S32x128x8192, .f32⟩
  | .hbm, ⟨51, _⟩ => ⟨S8192x512, .f32⟩
  | .hbm, ⟨52, _⟩ => ⟨S32x128x512, .f32⟩
  | _, _ => ⟨S32x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.Steps.lean ====
/-
  The kernel's body as a short program. The printed body is one long straight line; here the same operations are
  named: the attention of one activation slot (`slotOut`, eight heads of two batch rows each, projected by the local
  rows of the output weight), the steps of the two rings (`agStart`, `agWait`, `rsStart`, `rsWait`, …), and the body as
  those steps in order (`body`), a loop over the middle hops included. `cc0_body_eq` says that the printed body is that
  program.
-/
module

public import proofs.«01_k».proof.Proof.Gen.KernelIdeal

@[expose] public section

noncomputable section

namespace Cert.KernelIdeal.Ring

open Cert.KernelIdeal Cert.KernelIdeal.Gen
open Idealize.ShloMosaic Idealize.SL.Sem

variable {F : FTy → Type} [FloatOps F]

/-! ## The values -/

/-- One head of one batch row: the softmax of `q kᵀ / 8`, rounded, times `v`. -/
def headOut (q k v : FVec F S128x64 .bf16) : FVec F S128x64 .f32 :=
  have s : FVec F S128x128 .f32 := mulf (matmul dot_S128x64_S128x64_S128x128_1_1_0_0_n_n none q k (constant S128x128 .f32 0x00000000#32))
    (broadcast S128x128 (Scalar.ofBits .f32 0x3E000000#32))
  have e : FVec F S128x128 .f32 := exp (subf s (broadcastTo S128x128
    (shapeCast S128x1 (multiReduction .maximumf [1] S128 s 0xFF800000#32 reduces_S128x128_S128 (.inl rfl) rfl) shapeCasts_S128_S128x1) broadcasts_S128x1_S128x128))
  have l : FVec F S128x128 .f32 := broadcastTo S128x128
    (shapeCast S128x1 (multiReduction .add [1] S128 e 0x00000000#32 reduces_S128x128_S128 (.inl rfl) rfl) shapeCasts_S128_S128x1) broadcasts_S128x1_S128x128
  matmul dot_S128x128_S128x64_S128x64_1_0_0_1_n_n none (truncf .bf16 (divf e l) bitsLt_bf16_f32) v (constant S128x64 .f32 0x00000000#32)

/-- A window of 128 rows and 64 columns lies in the 256 × 512 projections. -/
theorem slices_at {r c : ℕ} (hr : r ≤ 128) (hc : c ≤ 448) : S256x512.Slices ![r, c] S128x64 :=
  ⟨rfl, fun a => by
    fin_cases a
    · show r + 128 ≤ 256; omega
    · show c + 64 ≤ 512; omega⟩

/-- The head at rows `r …` and columns `c …` of the three projections. -/
def headAt (Q K V : FVec F S256x512 .bf16) (r c : ℕ) (hr : r ≤ 128) (hc : c ≤ 448) : FVec F S128x64 .f32 :=
  headOut (extractStridedSlice S128x64 ![r, c] Q (slices_at hr hc)) (extractStridedSlice S128x64 ![r, c] K (slices_at hr hc))
    (extractStridedSlice S128x64 ![r, c] V (slices_at hr hc))

/-- The eight heads of one batch row side by side. -/
def rowOut (Q K V : FVec F S256x512 .bf16) (r : ℕ) (hr : r ≤ 128) : FVec F S128x512 .f32 :=
  concatenate S128x512 1 [⟨S128x64, headAt Q K V r 0 hr (by decide)⟩, ⟨S128x64, headAt Q K V r 64 hr (by decide)⟩,
    ⟨S128x64, headAt Q K V r 128 hr (by decide)⟩, ⟨S128x64, headAt Q K V r 192 hr (by decide)⟩,
    ⟨S128x64, headAt Q K V r 256 hr (by decide)⟩, ⟨S128x64, headAt Q K V r 320 hr (by decide)⟩,
    ⟨S128x64, headAt Q K V r 384 hr (by decide)⟩, ⟨S128x64, headAt Q K V r 448 hr (by decide)⟩]
    concatenates_S128x64_S128x64_S128x64_S128x64_S128x64_S128x64_S128x64_S128x64_S128x512_d1

/-- A projection of the activations by one of the local weight blocks, rounded. -/
def proj (x : FVec F S256x512 .bf16) (w : FVec F S512x512 .bf16) : FVec F S256x512 .bf16 :=
  truncf .bf16 (matmul dot_S256x512_S512x512_S256x512_1_0_0_1_n_n none x w (constant S256x512 .f32 0x00000000#32)) bitsLt_bf16_f32

/-- The attention of one activation block `x` with the local heads, projected by the local rows of the output weight. -/
def slotOut (x : FVec F S2x128x512 .bf16) (wq wk wv wo : FVec F S512x512 .bf16) : FVec F S2x128x512 .f32 :=
  have xf : FVec F S256x512 .bf16 := shapeCast S256x512 x shapeCasts_S2x128x512_S256x512
  have Q : FVec F S256x512 .bf16 := proj xf wq
  have K : FVec F S256x512 .bf16 := proj xf wk
  have V : FVec F S256x512 .bf16 := proj xf wv
  shapeCast S2x128x512 (matmul dot_S256x512_S512x512_S256x512_1_0_0_1_n_n none
    (truncf .bf16 (concatenate S256x512 0 [⟨S128x512, rowOut Q K V 0 (by decide)⟩, ⟨S128x512, rowOut Q K V 128 (by decide)⟩]
      concatenates_S128x512_S128x512_S256x512_d0) bitsLt_bf16_f32)
    wo (constant S256x512 .f32 0x00000000#32)) shapeCasts_S256x512_S2x128x512

/-! ## The buffers -/

/-- The staging buffers: the activations, the four weights, the result. -/
abbrev xM : Memref sig .tc .vmem S2x128x512 .bf16 := Memref.whole cc0_stg0_0
abbrev outM : Memref sig .tc .vmem S2x128x512 .f32 := Memref.whole cc0_stg5_0
/-- The sixteen gathered activation slots, the sixteen partial results, the fifteen slots each way of the second ring. -/
abbrev xgM : Memref sig .tc .vmem S16x2x128x512 .bf16 := Memref.whole cc0_scratch0
abbrev ptM : Memref sig .tc .vmem S16x2x128x512 .f32 := Memref.whole cc0_scratch1
abbrev rsM : Memref sig .tc .vmem S15x2x128x512 .bf16 := Memref.whole cc0_scratch2
abbrev rrM : Memref sig .tc .vmem S15x2x128x512 .bf16 := Memref.whole cc0_scratch3
/-- The local copies of the weights. -/
abbrev wqM : Memref sig .tc .vmem S512x512 .bf16 := Memref.whole cc0_scratch4
abbrev wkM : Memref sig .tc .vmem S512x512 .bf16 := Memref.whole cc0_scratch5
abbrev wvM : Memref sig .tc .vmem S512x512 .bf16 := Memref.whole cc0_scratch6
abbrev woM : Memref sig .tc .vmem S512x512 .bf16 := Memref.whole cc0_scratch7

theorem inb16 (r : Fin 16) : ∀ a, (![r.val, 0, 0, 0] : Fin 4 → ℕ) a + S1x2x128x512.size a ≤ S16x2x128x512.size a := by
  intro a; have := r.isLt; fin_cases a
  · show r.val + 1 ≤ 16; omega
  · show 0 + 2 ≤ 2; omega
  · show 0 + 128 ≤ 128; omega
  · show 0 + 512 ≤ 512; omega
theorem inb15 (r : Fin 15) : ∀ a, (![r.val, 0, 0, 0] : Fin 4 → ℕ) a + S1x2x128x512.size a ≤ S15x2x128x512.size a := by
  intro a; have := r.isLt; fin_cases a
  · show r.val + 1 ≤ 15; omega
  · show 0 + 2 ≤ 2; omega
  · show 0 + 128 ≤ 128; omega
  · show 0 + 512 ≤ 512; omega
theorem inbS (r : Fin 15) : ∀ a, (![r.val] : Fin 1 → ℕ) a + S1.size a ≤ S15.size a := by
  intro a; have := r.isLt; fin_cases a
  show r.val + 1 ≤ 15; omega

/-- Slot `r` as a rectangle of its buffer. -/
abbrev R16 (r : Fin 16) : Rect S16x2x128x512 := Rect.unit (s := S16x2x128x512) ![r.val, 0, 0, 0] S1x2x128x512.size (inb16 r)
abbrev R15 (r : Fin 15) : Rect S15x2x128x512 := Rect.unit (s := S15x2x128x512) ![r.val, 0, 0, 0] S1x2x128x512.size (inb15 r)
abbrev RW : Rect S512x512 := Rect.unit (s := S512x512) ![0, 0] S512x512.size inb_S512x512_S512x512_0_0
abbrev RX : Rect S2x128x512 := Rect.unit (s := S2x128x512) ![0, 0, 0] S2x128x512.size inb_S2x128x512_S2x128x512_0_0_0

theorem packed16 (r : Fin 16) : (R16 r).PackedRows (EltTy.packing .bf16) := by revert r; decide
theorem packed15 (r : Fin 15) : (R15 r).PackedRows (EltTy.packing .bf16) := by revert r; decide
theorem words16 (r : Fin 16) : (R16 r).WholeWords (EltTy.packing .bf16) := by revert r; decide
theorem words15 (r : Fin 15) : (R15 r).WholeWords (EltTy.packing .bf16) := by revert r; decide

/-- Slot `r` as the memref a transfer names. -/
abbrev xgS (r : Fin 16) : Memref sig .tc .vmem S2x128x512 .bf16 := (xgM.slice (R16 r) (fun _ => rfl)).squeeze S2x128x512 squeezes_S1x2x128x512_S2x128x512
abbrev rsS (r : Fin 15) : Memref sig .tc .vmem S2x128x512 .bf16 := (rsM.slice (R15 r) (fun _ => rfl)).squeeze S2x128x512 squeezes_S1x2x128x512_S2x128x512
abbrev rrS (r : Fin 15) : Memref sig .tc .vmem S2x128x512 .bf16 := (rrM.slice (R15 r) (fun _ => rfl)).squeeze S2x128x512 squeezes_S1x2x128x512_S2x128x512

theorem we_xg (r : Fin 16) : (xgS r).view.WordExact := ((Memref.isWhole_whole cc0_scratch0).wordExact_slice rfl _ (words16 r)).reshape _ _
theorem we_rs (r : Fin 15) : (rsS r).view.WordExact := ((Memref.isWhole_whole cc0_scratch2).wordExact_slice rfl _ (words15 r)).reshape _ _
theorem we_rr (r : Fin 15) : (rrS r).view.WordExact := ((Memref.isWhole_whole cc0_scratch3).wordExact_slice rfl _ (words15 r)).reshape _ _

/-- Semaphore `h` of each of the four arrays. -/
abbrev agSendS (h : Fin 15) : DmaSem sig := ((cc0_scratch8.slice (Rect.unit (s := S15) ![h.val] S1.size (inbS h))).squeeze S_ squeezes_S1_S_).sem
abbrev agRecvS (h : Fin 15) : DmaSem sig := ((cc0_scratch9.slice (Rect.unit (s := S15) ![h.val] S1.size (inbS h))).squeeze S_ squeezes_S1_S_).sem
abbrev rsSendS (h : Fin 15) : DmaSem sig := ((cc0_scratch10.slice (Rect.unit (s := S15) ![h.val] S1.size (inbS h))).squeeze S_ squeezes_S1_S_).sem
abbrev rsRecvS (h : Fin 15) : DmaSem sig := ((cc0_scratch11.slice (Rect.unit (s := S15) ![h.val] S1.size (inbS h))).squeeze S_ squeezes_S1_S_).sem

/-! ## The steps -/

/-- A step of a device's program. -/
abbrev Step : Type 1 := Prog (TpuEff nD τ sig (Elt F) Λ₀ (.tc : Proc τ)) PUnit

/-- Load through a slot (or a whole buffer) and store through one. -/
abbrev ldW (m : Memref sig .tc .vmem S512x512 .bf16) : Prog (TpuEff nD τ sig (Elt F) Λ₀ (.tc : Proc τ)) (Vec F S512x512 .bf16) :=
  Prog.lift (.load m RW.toLoadRect (View.loadsAt_vmem h_S512x512))
abbrev stW (m : Memref sig .tc .vmem S512x512 .bf16) (hm : m.IsWhole) (v : FVec F S512x512 .bf16) : Step (F := F) :=
  Prog.lift (.store m RW v Finset.univ (View.stores_vmem h_S512x512 (hm.storeExact_slice rfl _ packedbf16_S512x512_S512x512_0_0) (fun _ => rfl)) (.inl rfl))
abbrev ldX : Prog (TpuEff nD τ sig (Elt F) Λ₀ (.tc : Proc τ)) (Vec F S2x128x512 .bf16) :=
  Prog.lift (.load xM RX.toLoadRect (View.loadsAt_vmem h_S2x128x512))
abbrev ldO : Prog (TpuEff nD τ sig (Elt F) Λ₀ (.tc : Proc τ)) (Vec F S2x128x512 .f32) :=
  Prog.lift (.load outM RX.toLoadRect (View.loadsAt_vmem h_S2x128x512))
abbrev stO (v : FVec F S2x128x512 .f32) : Step (F := F) :=
  Prog.lift (.store outM RX v Finset.univ (View.stores_vmem_bits_univ h_S2x128x512 rfl) (.inl rfl))
abbrev ldG (r : Fin 16) : Prog (TpuEff nD τ sig (Elt F) Λ₀ (.tc : Proc τ)) (Vec F S1x2x128x512 .bf16) :=
  Prog.lift (.load xgM (R16 r).toLoadRect (View.loadsAt_vmem h_S1x2x128x512))
abbrev stG (r : Fin 16) (v : FVec F S1x2x128x512 .bf16) : Step (F := F) :=
  Prog.lift (.store xgM (R16 r) v Finset.univ (View.stores_vmem h_S1x2x128x512 ((Memref.isWhole_whole cc0_scratch0).storeExact_slice rfl _ (packed16 r)) (fun _ => rfl)) (.inl rfl))
abbrev ldP (r : Fin 16) : Prog (TpuEff nD τ sig (Elt F) Λ₀ (.tc : Proc τ)) (Vec F S1x2x128x512 .f32) :=
  Prog.lift (.load ptM (R16 r).toLoadRect (View.loadsAt_vmem h_S1x2x128x512))
abbrev stP (r : Fin 16) (v : FVec F S1x2x128x512 .f32) : Step (F := F) :=
  Prog.lift (.store ptM (R16 r) v Finset.univ (View.stores_vmem_bits_univ h_S1x2x128x512 rfl) (.inl rfl))
abbrev ldS (r : Fin 15) : Prog (TpuEff nD τ sig (Elt F) Λ₀ (.tc : Proc τ)) (Vec F S1x2x128x512 .bf16) :=
  Prog.lift (.load rsM (R15 r).toLoadRect (View.loadsAt_vmem h_S1x2x128x512))
abbrev stS (r : Fin 15) (v : FVec F S1x2x128x512 .bf16) : Step (F := F) :=
  Prog.lift (.store rsM (R15 r) v Finset.univ (View.stores_vmem h_S1x2x128x512 ((Memref.isWhole_whole cc0_scratch2).storeExact_slice rfl _ (packed15 r)) (fun _ => rfl)) (.inl rfl))
abbrev ldR (r : Fin 15) : Prog (TpuEff nD τ sig (Elt F) Λ₀ (.tc : Proc τ)) (Vec F S1x2x128x512 .bf16) :=
  Prog.lift (.load rrM (R15 r).toLoadRect (View.loadsAt_vmem h_S1x2x128x512))

/-- Start the transfer of gathered slot `h` to device `e`'s slot `h + 1`. -/
def agStart (e : Dev nD) (h : Fin 15) : Step (F := F) :=
  Prog.lift (.enqueueDma (xgS h.castSucc) (.remote (Dev.tc e) (xgS h.succ) (.dma (agSendS h))) (.dma (agRecvS h)) (we_xg _) (we_xg _) ⟨⟨rfl, Or.inl rfl⟩, trivial⟩)
/-- Wait for the left neighbour's transfer into slot `h + 1`. -/
def agWait (h : Fin 15) : Step (F := F) :=
  Prog.lift (.waitDma2 (agRecvS h) (xgS h.castSucc) (xgS h.succ) (we_xg _) (we_xg _))
/-- Wait until the transfer out of slot `h` has left. -/
def agDone (h : Fin 15) : Step (F := F) :=
  Prog.lift (.waitDma2 (agSendS h) (xgS h.succ) (xgS h.castSucc) (we_xg _) (we_xg _))
/-- Start the transfer of the running sum in slot `t` to device `e`'s slot `t`. -/
def rsStart (e : Dev nD) (t : Fin 15) : Step (F := F) :=
  Prog.lift (.enqueueDma (rsS t) (.remote (Dev.tc e) (rrS t) (.dma (rsSendS t))) (.dma (rsRecvS t)) (we_rs _) (we_rr _) ⟨⟨rfl, Or.inl rfl⟩, trivial⟩)
/-- Wait for the left neighbour's running sum `t`. -/
def rsWait (t : Fin 15) : Step (F := F) :=
  Prog.lift (.waitDma2 (rsRecvS t) (rsS t) (rrS t) (we_rs _) (we_rr _))
/-- Wait until the running sum in slot `t` has left. -/
def rsDone (t : Fin 15) : Step (F := F) :=
  Prog.lift (.waitDma2 (rsSendS t) (rrS t) (rsS t) (we_rr _) (we_rs _))

/-- Copy a weight block into a local buffer. -/
def copyW (a b : Memref sig .tc .vmem S512x512 .bf16) (hb : b.IsWhole) : Step (F := F) := do
  let v ← ldW a
  let _ ← ldW b
  stW b hb (shapeCast S512x512 (shapeCast S512x512 v shapeCasts_S512x512_S512x512) shapeCasts_S512x512_S512x512)

/-- Copy the activations into slot 0. -/
def copyX : Step (F := F) := do
  let v ← ldX
  let _ ← ldG 0
  stG 0 (shapeCast S1x2x128x512 (shapeCast S2x128x512 v shapeCasts_S2x128x512_S2x128x512) shapeCasts_S2x128x512_S1x2x128x512)

/-- The attention of gathered slot `r`, kept as partial result `r`. -/
def slotStep (r : Fin 16) : Step (F := F) := do
  let x ← ldG r
  let wq ← ldW wqM
  let wk ← ldW wkM
  let wv ← ldW wvM
  let wo ← ldW woM
  let _ ← ldP r
  stP r (shapeCast S1x2x128x512 (slotOut (shapeCast S2x128x512 x shapeCasts_S1x2x128x512_S2x128x512) wq wk wv wo) shapeCasts_S2x128x512_S1x2x128x512)

/-- The first running sum: partial result 1 alone. -/
def sumFirst : Step (F := F) := do
  let v ← ldP 1
  let _ ← ldS 0
  stS 0 (shapeCast S1x2x128x512 (truncf .bf16 (shapeCast S2x128x512 v shapeCasts_S1x2x128x512_S2x128x512) bitsLt_bf16_f32) shapeCasts_S2x128x512_S1x2x128x512)

/-- The next running sum: partial result `n + 2` plus the left neighbour's sum `n`. -/
def sumStep (n : Fin 14) : Step (F := F) := do
  let v ← ldP n.succ.succ
  let w ← ldR n.castSucc
  let _ ← ldS n.succ
  stS n.succ (shapeCast S1x2x128x512 (truncf .bf16 (addf (shapeCast S2x128x512 v shapeCasts_S1x2x128x512_S2x128x512)
    (extf .f32 (shapeCast S2x128x512 w shapeCasts_S1x2x128x512_S2x128x512) bitsLt_bf16_f32)) bitsLt_bf16_f32) shapeCasts_S2x128x512_S1x2x128x512)

/-- The result: partial result 0 plus the left neighbour's last sum. -/
def sumLast : Step (F := F) := do
  let v ← ldP 0
  let w ← ldR 14
  let _ ← ldO
  stO (addf (shapeCast S2x128x512 v shapeCasts_S1x2x128x512_S2x128x512)
    (extf .f32 (shapeCast S2x128x512 w shapeCasts_S1x2x128x512_S2x128x512) bitsLt_bf16_f32))

/-- The neighbours' barrier: signal both, wait for both. -/
def barrier (l r : Dev nD) : Step (F := F) := do
  semSignalWord l (SemArray.scalar (sig.barrier 0 rfl) : Sems sig S_).sem 1#32
  semSignalWord r (SemArray.scalar (sig.barrier 0 rfl) : Sems sig S_).sem 1#32
  semWaitWord (SemArray.scalar (sig.barrier 0 rfl) : Sems sig S_).sem 2#32

/-- Middle hop `m + 2`: take slot `m + 2`, pass it on, compute on it, take the left sum `m`, make and send sum `m + 1`. -/
def hop (ea er : Fin 15 → Dev nD) (m : Fin 13) : Step (F := F) := do
  agWait m.succ.castSucc
  agStart (ea m.succ.succ) m.succ.succ
  slotStep m.succ.succ.castSucc
  rsWait m.castSucc.castSucc
  sumStep m.castSucc
  rsStart (er m.succ.castSucc) m.succ.castSucc

/-- The middle hops `m + 2 …`, `k` of them. -/
def hops (ea er : Fin 15 → Dev nD) : (m k : ℕ) → m + k ≤ 13 → Step (F := F)
  | _, 0, _ => pure ⟨⟩
  | m, k + 1, h => do
    hop ea er ⟨m, by omega⟩
    hops ea er (m + 1) k (by omega)

/-- Wait for the departures `m …`, `k` of each ring. -/
def drain : (m k : ℕ) → m + k ≤ 15 → Step (F := F)
  | _, 0, _ => pure ⟨⟩
  | m, k + 1, h => do
    agDone ⟨m, by omega⟩
    rsDone ⟨m, by omega⟩
    drain (m + 1) k (by omega)

/-- The body, its targets as parameters. -/
def bodyAt (l r : Dev nD) (ea er : Fin 15 → Dev nD) : Step (F := F) := do
  barrier l r
  copyW (Memref.whole cc0_stg1_0) wqM (Memref.isWhole_whole _)
  copyW (Memref.whole cc0_stg2_0) wkM (Memref.isWhole_whole _)
  copyW (Memref.whole cc0_stg3_0) wvM (Memref.isWhole_whole _)
  copyW (Memref.whole cc0_stg4_0) woM (Memref.isWhole_whole _)
  copyX
  agStart (ea 0) 0
  slotStep 0
  agWait 0
  agStart (ea 1) 1
  slotStep 1
  sumFirst
  rsStart (er 0) 0
  hops ea er 0 13 (by decide)
  agWait 14
  slotStep 15
  rsWait 13
  sumStep 13
  rsStart (er 14) 14
  rsWait 14
  sumLast
  drain 0 15 (by decide)

end Cert.KernelIdeal.Ring
end
-- ==== Proof.BodyEq.lean ====
/-
  The printed body is the short program of `Steps`: both are the same 284 operations in the same order.
-/
module
public import proofs.«01_k».proof.Proof.Steps
public import proofs.«01_k».proof.Proof.Gen.KernelIdeal.Skeleton
@[expose] public section
noncomputable section
namespace Cert.KernelIdeal.Ring
open Cert.KernelIdeal Cert.KernelIdeal.Gen
open Idealize.ShloMosaic Idealize.SL.Sem
variable {F : FTy → Type} [FloatOps F]

/-- The targets of the fifteen transfers of the first ring, as the body computes them from its own index. -/
def agTo (d : Dev nD) : Fin 15 → Dev nD := ![⟨k0_dev3 d, k0_dev3_lt d⟩, ⟨k0_dev4 d, k0_dev4_lt d⟩, ⟨k0_dev6 d, k0_dev6_lt d⟩, ⟨k0_dev8 d, k0_dev8_lt
    d⟩, ⟨k0_dev10 d, k0_dev10_lt d⟩, ⟨k0_dev12 d, k0_dev12_lt d⟩, ⟨k0_dev14 d, k0_dev14_lt d⟩, ⟨k0_dev16 d, k0_dev16_lt d⟩, ⟨k0_dev18 d, k0_dev18_lt
    d⟩, ⟨k0_dev20 d, k0_dev20_lt d⟩, ⟨k0_dev22 d, k0_dev22_lt d⟩, ⟨k0_dev24 d, k0_dev24_lt d⟩, ⟨k0_dev26 d, k0_dev26_lt d⟩, ⟨k0_dev28 d, k0_dev28_lt
    d⟩, ⟨k0_dev30 d, k0_dev30_lt d⟩]
/-- The targets of the fifteen transfers of the second ring. -/
def rsTo (d : Dev nD) : Fin 15 → Dev nD := ![⟨k0_dev5 d, k0_dev5_lt d⟩, ⟨k0_dev7 d, k0_dev7_lt d⟩, ⟨k0_dev9 d, k0_dev9_lt d⟩, ⟨k0_dev11 d, k0_dev11_lt
    d⟩, ⟨k0_dev13 d, k0_dev13_lt d⟩, ⟨k0_dev15 d, k0_dev15_lt d⟩, ⟨k0_dev17 d, k0_dev17_lt d⟩, ⟨k0_dev19 d, k0_dev19_lt d⟩, ⟨k0_dev21 d, k0_dev21_lt
    d⟩, ⟨k0_dev23 d, k0_dev23_lt d⟩, ⟨k0_dev25 d, k0_dev25_lt d⟩, ⟨k0_dev27 d, k0_dev27_lt d⟩, ⟨k0_dev29 d, k0_dev29_lt d⟩, ⟨k0_dev31 d, k0_dev31_lt
    d⟩, ⟨k0_dev32 d, k0_dev32_lt d⟩]

/-- Two programs agree when their first operations do and what follows does. -/
theorem op_congr {α β : Type} {e e' : TpuEff nD τ sig (Elt F) Λ₀ (.tc : Proc τ) β} {k k' : β → Prog (TpuEff nD τ sig (Elt F) Λ₀ (.tc : Proc τ)) α} (he
    : e = e') (h : ∀ x, k x = k' x) : Prog.op e k = Prog.op e' k' := by rw [he, funext h]
set_option maxRecDepth 100000 in
set_option maxHeartbeats 0 in
/-- The printed body reads its device index and runs the short program at the targets computed from it. -/
theorem cc0_body_eq :
    cc0_body (F := F) (Memref.whole cc0_stg0_0) (Memref.isWhole_whole _) (Memref.whole cc0_stg1_0) (Memref.isWhole_whole _) (Memref.whole cc0_stg2_0)
    (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2)
    (Memref.isWhole_whole _)
      (Memref.whole cc0_scratch3) (Memref.isWhole_whole _) (Memref.whole cc0_scratch4) (Memref.isWhole_whole _) (Memref.whole cc0_scratch5)
    (Memref.isWhole_whole _)
      (Memref.whole cc0_scratch6) (Memref.isWhole_whole _) (Memref.whole cc0_scratch7) (Memref.isWhole_whole _) cc0_scratch8 cc0_scratch9
    cc0_scratch10 cc0_scratch11
    = (.op .deviceId fun d => bodyAt ⟨k0_dev1 d, k0_dev1_lt d⟩ ⟨k0_dev2 d, k0_dev2_lt d⟩ (agTo d) (rsTo d)) := by
  rw [cc0_body_eq_skeleton]
  dsimp only [cc0_body_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel, k0_part7_eq_skeleton,
    k0_part7_skel, k0_part8_eq_skeleton, k0_part8_skel, k0_part9_eq_skeleton, k0_part9_skel, k0_part10_eq_skeleton, k0_part10_skel,
    k0_part11_eq_skeleton, k0_part11_skel, k0_part12_eq_skeleton, k0_part12_skel, k0_part13_eq_skeleton, k0_part13_skel, k0_part14_eq_skeleton,
    k0_part14_skel, k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel, k0_part21_eq_skeleton,
    k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton,
    k0_part28_skel, k0_part29_eq_skeleton, k0_part29_skel, k0_part30_eq_skeleton, k0_part30_skel, k0_part31_eq_skeleton, k0_part31_skel,
    k0_part32_eq_skeleton, k0_part32_skel, k0_part33_eq_skeleton, k0_part33_skel, k0_part34_eq_skeleton, k0_part34_skel, k0_part35_eq_skeleton,
    k0_part35_skel, k0_part36_eq_skeleton, k0_part36_skel, k0_part37_eq_skeleton, k0_part37_skel, k0_part38_eq_skeleton, k0_part38_skel,
    k0_part39_eq_skeleton, k0_part39_skel, k0_part40_eq_skeleton, k0_part40_skel, k0_part41_eq_skeleton, k0_part41_skel, k0_part42_eq_skeleton,
    k0_part42_skel, k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel, k0_part49_eq_skeleton,
    k0_part49_skel, k0_part50_eq_skeleton, k0_part50_skel, k0_part51_eq_skeleton, k0_part51_skel, k0_part52_eq_skeleton, k0_part52_skel,
    k0_part53_eq_skeleton, k0_part53_skel, k0_part54_eq_skeleton, k0_part54_skel, k0_part55_eq_skeleton, k0_part55_skel, k0_part56_eq_skeleton,
    k0_part56_skel, k0_part57_eq_skeleton, k0_part57_skel, k0_part58_eq_skeleton, k0_part58_skel, k0_part59_eq_skeleton, k0_part59_skel,
    k0_part60_eq_skeleton, k0_part60_skel, k0_part61_eq_skeleton, k0_part61_skel, k0_part62_eq_skeleton, k0_part62_skel, k0_part63_eq_skeleton,
    k0_part63_skel, k0_part64_eq_skeleton, k0_part64_skel, k0_part65_eq_skeleton, k0_part65_skel, k0_part66_eq_skeleton, k0_part66_skel,
    k0_part67_eq_skeleton, k0_part67_skel, k0_part68_eq_skeleton, k0_part68_skel, k0_part69_eq_skeleton, k0_part69_skel, k0_part70_eq_skeleton,
    k0_part70_skel, k0_part71_eq_skeleton, k0_part71_skel, k0_part72_eq_skeleton, k0_part72_skel, k0_part73_eq_skeleton, k0_part73_skel,
    k0_part74_eq_skeleton, k0_part74_skel, k0_part75_eq_skeleton, k0_part75_skel, k0_part76_eq_skeleton, k0_part76_skel, k0_part77_eq_skeleton,
    k0_part77_skel, k0_part78_eq_skeleton, k0_part78_skel, k0_part79_eq_skeleton, k0_part79_skel, k0_part80_eq_skeleton, k0_part80_skel,
    k0_part81_eq_skeleton, k0_part81_skel, k0_part82_eq_skeleton, k0_part82_skel, k0_part83_eq_skeleton, k0_part83_skel, k0_part84_eq_skeleton,
    k0_part84_skel, k0_part85_eq_skeleton, k0_part85_skel, k0_part86_eq_skeleton, k0_part86_skel, k0_part87_eq_skeleton, k0_part87_skel,
    k0_part88_eq_skeleton, k0_part88_skel, k0_part89_eq_skeleton, k0_part89_skel, k0_part90_eq_skeleton, k0_part90_skel, k0_part91_eq_skeleton,
    k0_part91_skel, k0_part92_eq_skeleton, k0_part92_skel, k0_part93_eq_skeleton, k0_part93_skel, k0_part94_eq_skeleton, k0_part94_skel,
    k0_part95_eq_skeleton, k0_part95_skel, k0_part96_eq_skeleton, k0_part96_skel, k0_part97_eq_skeleton, k0_part97_skel, k0_part98_eq_skeleton,
    k0_part98_skel, k0_part99_eq_skeleton, k0_part99_skel, k0_part100_eq_skeleton, k0_part100_skel, k0_part101_eq_skeleton, k0_part101_skel,
    k0_part102_eq_skeleton, k0_part102_skel, k0_part103_eq_skeleton, k0_part103_skel, k0_part104_eq_skeleton, k0_part104_skel, k0_part105_eq_skeleton,
    k0_part105_skel, k0_part106_eq_skeleton, k0_part106_skel, k0_part107_eq_skeleton, k0_part107_skel, k0_part108_eq_skeleton, k0_part108_skel,
    k0_part109_eq_skeleton, k0_part109_skel, k0_part110_eq_skeleton, k0_part110_skel, k0_part111_eq_skeleton, k0_part111_skel, k0_part112_eq_skeleton,
    k0_part112_skel, k0_part113_eq_skeleton, k0_part113_skel, k0_part114_eq_skeleton, k0_part114_skel, k0_part115_eq_skeleton, k0_part115_skel,
    k0_part116_eq_skeleton, k0_part116_skel, k0_part117_eq_skeleton, k0_part117_skel, k0_part118_eq_skeleton, k0_part118_skel, k0_part119_eq_skeleton,
    k0_part119_skel, k0_part120_eq_skeleton, k0_part120_skel, k0_part121_eq_skeleton, k0_part121_skel, k0_part122_eq_skeleton, k0_part122_skel,
    k0_part123_eq_skeleton, k0_part123_skel, k0_part124_eq_skeleton, k0_part124_skel, k0_part125_eq_skeleton, k0_part125_skel, k0_part126_eq_skeleton,
    k0_part126_skel, k0_part127_eq_skeleton, k0_part127_skel, k0_part128_eq_skeleton, k0_part128_skel, k0_part129_eq_skeleton, k0_part129_skel,
    k0_part130_eq_skeleton, k0_part130_skel, k0_part131_eq_skeleton, k0_part131_skel, k0_part132_eq_skeleton, k0_part132_skel, k0_part133_eq_skeleton,
    k0_part133_skel, k0_part134_eq_skeleton, k0_part134_skel, k0_part135_eq_skeleton, k0_part135_skel, k0_part136_eq_skeleton, k0_part136_skel,
    k0_part137_eq_skeleton, k0_part137_skel, k0_part138_eq_skeleton, k0_part138_skel, k0_part139_eq_skeleton, k0_part139_skel, k0_part140_eq_skeleton,
    k0_part140_skel, k0_part141_eq_skeleton, k0_part141_skel, k0_part142_eq_skeleton, k0_part142_skel, k0_part143_eq_skeleton, k0_part143_skel,
    k0_part144_eq_skeleton, k0_part144_skel, k0_part145_eq_skeleton, k0_part145_skel, k0_part146_eq_skeleton, k0_part146_skel, k0_part147_eq_skeleton,
    k0_part147_skel, k0_part148_eq_skeleton, k0_part148_skel, k0_part149_eq_skeleton, k0_part149_skel, Prog.bind_lift, Prog.bind_op, Prog.bind_ret,
    Prog.pure_eq_ret, Prog.lift, semSignalWord, semWaitWord,
    bodyAt, barrier, copyW, copyX, slotStep, agStart, agWait, agDone, rsStart, rsWait, rsDone, sumFirst, sumStep, sumLast, hops, hop, drain]
  iterate 71 refine op_congr rfl fun _ => ?_
  iterate 71 refine op_congr rfl fun _ => ?_
  iterate 71 refine op_congr rfl fun _ => ?_
  iterate 71 refine op_congr rfl fun _ => ?_
  rfl
end Cert.KernelIdeal.Ring
end
-- ==== Proof.Schedule.lean ====
/-
  The protocol. Sixteen devices stand on a ring (`nxt`, `prv`). Each has one barrier cell and four arrays of fifteen
  transfer cells. A device tells its left neighbour's barrier that its own landing slots are free, and its right
  neighbour's barrier that it is there; after its own barrier it may write into its right neighbour's slots.

  First ring: transfer `h` moves activation slot `h` to the right neighbour's slot `h + 1`, so slot `r` of device `c`
  holds the activations of the device `r` places back (`back r c`). Second ring: transfer `t` moves running sum `t`
  (`runSum`) to the right neighbour, who adds its own partial result and rounds.

  Every cell has one round. A send cell pays back what was lent for the transfer, a receive cell the slot with its new
  contents. The levels rise along each ring, so no device waits for something it must itself bring about.
-/
module

public import proofs.«01_k».proof.Proof.BodyEq
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The ring -/

/-- The right neighbour and the left neighbour on the ring `0 1 2 3 7 6 5 9 10 11 15 14 13 12 8 4`. -/
def nxt (c : Dev nD) : Dev nD := (![1, 2, 3, 7, 0, 9, 5, 6, 4, 10, 11, 15, 8, 12, 13, 14] : Fin 16 → Fin 16) c
def prv (c : Dev nD) : Dev nD := (![4, 0, 1, 2, 8, 6, 7, 3, 12, 5, 9, 10, 13, 14, 15, 11] : Fin 16 → Fin 16) c

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

/-- The device `r` places back. -/
def back : ℕ → Dev nD → Dev nD
  | 0, c => c
  | r + 1, c => back r (prv c)

theorem back_succ_nxt (r : ℕ) (c : Dev nD) : back (r + 1) (nxt c) = back r c := by
  show back r (prv (nxt c)) = _; rw [prv_nxt]

/-- The two barrier signals name the left and the right neighbour, every transfer the right one. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem agTo_eq (c : Dev nD) : agTo c = fun _ => nxt c := by revert c; decide
theorem rsTo_eq (c : Dev nD) : rsTo c = fun _ => nxt c := by revert c; decide

/-! ## The cells -/

/-- A device's cells: its barrier (`none`), and cell `h` of array `a` (0, 1: the departures and arrivals of the first
    ring; 2, 3: those of the second). -/
abbrev Cell : Type := Option (Fin 4 × Fin 15)

abbrev barS : Sem sig := (SemArray.scalar (sig.barrier 0 rfl) : Sems sig S_).sem
/-- Cell `h` of array `a`. -/
def arrS : Fin 4 → Fin 15 → DmaSem sig
  | 0, h => agSendS h | 1, h => agRecvS h | 2, h => rsSendS h | 3, h => rsRecvS h

abbrev csem : Cell → SemLoc sig
  | none => .reg barS
  | some (a, h) => .dma (arrS a h)
abbrev kcell (ck : Dev nD × Cell) : GSem nD τ sig := ((ck.1 : Thread nD τ), csem ck.2)

/-- The number of a transfer semaphore among the own ones, read back as array and place. -/
def decD (v : ℕ) : Option (Fin 4 × Fin 15) :=
  if h : 6 ≤ v ∧ v < 66 then some (⟨(v - 6) / 15, by omega⟩, ⟨(v - 6) % 15, Nat.mod_lt _ (by decide)⟩) else none
/-- Which cell a semaphore is. -/
def dec : SemLoc sig → Option Cell
  | .reg s => if s = barS then some none else none
  | .dma s => (decD s.val).map some

theorem decD_arrS : ∀ (a : Fin 4) (h : Fin 15), decD (arrS a h).val = some (a, h) := by decide
theorem dec_csem (k : Cell) : dec (csem k) = some k := by
  rcases k with _ | ⟨a, h⟩
  · rfl
  · show (decD (arrS a h).val).map some = _; rw [decD_arrS]; rfl
theorem csem_injective : Function.Injective csem := fun a b h => by
  have := congrArg dec h; rw [dec_csem, dec_csem] at this; exact Option.some.inj this

/-- What one transfer of a slot counts. -/
def N : ℕ := (xgS 0).view.dmaCredit
theorem N_pos : 0 < N := View.dmaCredit_pos _ (by decide)

/-! ## Contents -/

/-- A device's blocks of the operands, as staged. -/
def xAt (c : Dev nD) : FVec F S2x128x512 .bf16 := (win0_0.blk (0 : Fin 1)).view.read (Elt F) ((s₀ m ρ).mem ((c : Thread nD τ).loc main_arg0))
def wqAt (c : Dev nD) : FVec F S512x512 .bf16 := (win0_1.blk (0 : Fin 1)).view.read (Elt F) ((s₀ m ρ).mem ((c : Thread nD τ).loc main_arg1))
def wkAt (c : Dev nD) : FVec F S512x512 .bf16 := (win0_2.blk (0 : Fin 1)).view.read (Elt F) ((s₀ m ρ).mem ((c : Thread nD τ).loc main_arg2))
def wvAt (c : Dev nD) : FVec F S512x512 .bf16 := (win0_3.blk (0 : Fin 1)).view.read (Elt F) ((s₀ m ρ).mem ((c : Thread nD τ).loc main_arg3))
def woAt (c : Dev nD) : FVec F S512x512 .bf16 := (win0_4.blk (0 : Fin 1)).view.read (Elt F) ((s₀ m ρ).mem ((c : Thread nD τ).loc main_arg4))

/-- Activation slot `r` of device `c`, and the partial result it makes of it. -/
def slotX (c : Dev nD) (r : ℕ) : FVec F S2x128x512 .bf16 := xAt m ρ (back r c)
def partAt (c : Dev nD) (r : ℕ) : FVec F S2x128x512 .f32 := slotOut (slotX m ρ c r) (wqAt m ρ c) (wkAt m ρ c) (wvAt m ρ c) (woAt m ρ c)

/-- Running sum `t` of device `c`: its partial result `t + 1` plus the left neighbour's sum `t - 1`, rounded. -/
def runSum : ℕ → Dev nD → FVec F S2x128x512 .bf16
  | 0, c => truncf .bf16 (partAt m ρ c 1) bitsLt_bf16_f32
  | t + 1, c => truncf .bf16 (addf (partAt m ρ c (t + 2)) (extf .f32 (runSum t (prv c)) bitsLt_bf16_f32)) bitsLt_bf16_f32

/-- The result on device `c`. -/
def outAt (c : Dev nD) : FVec F S2x128x512 .f32 := addf (partAt m ρ c 0) (extf .f32 (runSum m ρ 14 (prv c)) bitsLt_bf16_f32)

theorem slotX_nxt (c : Dev nD) (r : ℕ) : slotX m ρ (nxt c) (r + 1) = slotX m ρ c r := by
  unfold slotX; rw [back_succ_nxt]

/-- Slot `r` of the partial results. -/
abbrev ptS (r : Fin 16) : Memref sig .tc .vmem S2x128x512 .f32 := (ptM.slice (R16 r) (fun _ => rfl)).squeeze S2x128x512 squeezes_S1x2x128x512_S2x128x512

abbrev xg (c : Dev nD) (r : Fin 16) (q : PosShare TreeShare) (X : FVec F S2x128x512 .bf16) : sProp 𝕄 := owns (c : Thread nD τ) (xgS r) q X
abbrev pt (c : Dev nD) (r : Fin 16) (X : FVec F S2x128x512 .f32) : sProp 𝕄 := owns (c : Thread nD τ) (ptS r) fullShare X
abbrev rs (c : Dev nD) (r : Fin 15) (X : FVec F S2x128x512 .bf16) : sProp 𝕄 := owns (c : Thread nD τ) (rsS r) fullShare X
abbrev rr (c : Dev nD) (r : Fin 15) (X : FVec F S2x128x512 .bf16) : sProp 𝕄 := owns (c : Thread nD τ) (rrS r) fullShare X

/-! ## The schedule -/

/-- The landing slots of transfer `h` of either ring on device `c`. -/
def landing (c : Dev nD) (h : Fin 15) : sProp 𝕄 := iprop((∃ X, xg c h.succ fullShare X) ∗ ∃ X, rr c h X)
/-- What the right neighbour's signal hands device `c`: the right neighbour's landing slots. -/
def barPay (c : Dev nD) : sProp 𝕄 := bigSep Finset.univ fun h => landing (nxt c) h

/-- What a transfer cell pays: half of the slot sent, the slot received, the sum sent, the sum received. -/
def xferPay (c : Dev nD) : Fin 4 → Fin 15 → sProp 𝕄
  | 0, h => xg c h.castSucc fullShare.right (slotX m ρ c h.val)
  | 1, h => xg c h.succ fullShare (slotX m ρ c (h.val + 1))
  | 2, t => rs c t (runSum m ρ t.val c)
  | 3, t => rr c t (runSum m ρ t.val (prv c))

/-- What a duty of a cell counts. -/
def amt : Option Cell → ℕ
  | some none => 1
  | _ => N
theorem amt_pos : ∀ k, 0 < amt k
  | some none => Nat.one_pos
  | none => N_pos
  | some (some _) => N_pos

/-- One round: a barrier has the duties `false` (from the left) and `true` (from the right) of a unit each, a transfer
    cell the duty `false` of a transfer's count. -/
def sched : Rounds.Schedule (GSem nD τ sig) Bool 𝕄 where
  duties g r := if r = 0 ∧ g.1.2 = .tc then (match dec g.2 with | none => ∅ | some none => Finset.univ | some (some _) => {false}) else ∅
  unitless _ := False
  amount g _ _ := amt (dec g.2)
  payload g _ d := match dec g.2 with
    | none => iprop(emp)
    | some none => if d then barPay g.1.1 else iprop(emp)
    | some (some (a, h)) => xferPay m ρ g.1.1 a h
  amount_pos g _ _ _ := amt_pos _

omit [FloatOps F] in
instance landing_storable (c : Dev nD) (h : Fin 15) : BI.Storable (upEmb : UEmb _ 𝕄) (landing (F := F) c h) := by unfold landing; infer_instance
omit [FloatOps F] in
instance barPay_storable (c : Dev nD) : BI.Storable (upEmb : UEmb _ 𝕄) (barPay (F := F) c) := by unfold barPay; infer_instance
instance xferPay_storable (c : Dev nD) (a : Fin 4) (h : Fin 15) : BI.Storable (upEmb : UEmb _ 𝕄) (xferPay (F := F) m ρ c a h) := by
  unfold xferPay; split <;> infer_instance
instance sched_payload_storable (g : GSem nD τ sig) (r : ℕ) (d : Bool) :
    BI.Storable (upEmb : UEmb _ 𝕄) ((sched (F := F) m ρ).payload g r d) := by
  dsimp only [sched]
  (repeat' split) <;> infer_instance

section Sched
variable (c : Dev nD) (a : Fin 4) (h : Fin 15)

abbrev barCell (c : Dev nD) : GSem nD τ sig := kcell (c, none)
abbrev xc (c : Dev nD) (a : Fin 4) (h : Fin 15) : GSem nD τ sig := kcell (c, some (a, h))

theorem duties_bar : (sched (F := F) m ρ).duties (barCell c) 0 = Finset.univ := by dsimp only [sched]; rw [if_pos ⟨rfl, rfl⟩, dec_csem]
theorem duties_x : (sched (F := F) m ρ).duties (xc c a h) 0 = {false} := by dsimp only [sched]; rw [if_pos ⟨rfl, rfl⟩, dec_csem]
theorem duties_later (g : GSem nD τ sig) : ∀ r, 1 ≤ r → (sched (F := F) m ρ).duties g r = ∅ :=
  fun r hr => by dsimp only [sched]; rw [if_neg fun h => by omega]
theorem amount_bar (d : Bool) : (sched (F := F) m ρ).amount (barCell c) 0 d = 1 := by dsimp only [sched]; rw [dec_csem]; rfl
theorem amount_x (d : Bool) : (sched (F := F) m ρ).amount (xc c a h) 0 d = N := by dsimp only [sched]; rw [dec_csem]; rfl
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x : (sched (F := F) m ρ).expect (xc c a h) 0 = N := by
  unfold Schedule.expect Schedule.amountOf; rw [duties_x, Finset.sum_singleton, amount_x]
theorem payload_bar (d : Bool) : (sched (F := F) m ρ).payload (barCell c) 0 d = if d then barPay c else iprop(emp) := by
  dsimp only [sched]; rw [dec_csem]
theorem payload_x (d : Bool) : (sched (F := F) m ρ).payload (xc c a h) 0 d = xferPay m ρ c a h := by
  dsimp only [sched]; rw [dec_csem]
/-- The barrier's whole round pays the right neighbour's landing slots. -/
theorem rest_bar : bigSep ((sched (F := F) m ρ).duties (barCell c) 0 \ ∅) (fun d => (sched (F := F) m ρ).payload (barCell c) 0 d)
    = iprop(emp ∗ barPay c) := by
  rw [Finset.sdiff_empty, duties_bar, bigSep_univ_eq_bigSepL [false, true] (by decide) (by decide), bigSepL_cons_cons, bigSepL_singleton,
    payload_bar, payload_bar]
  rfl
/-- A transfer cell's whole round pays its payload. -/
theorem rest_x : bigSep ((sched (F := F) m ρ).duties (xc c a h) 0 \ ∅) (fun d => (sched (F := F) m ρ).payload (xc c a h) 0 d)
    = xferPay m ρ c a h := by
  rw [Finset.sdiff_empty, duties_x, bigSep_singleton, payload_x]

end Sched

/-! ## What a device owes; the levels -/

/-- The places from `n` on. -/
def from' {k : ℕ} (n : ℕ) : Finset (Fin k) := Finset.univ.filter fun h => n ≤ h.val

theorem from_zero {k : ℕ} : from' (k := k) 0 = Finset.univ := by ext; simp [from']
theorem from_succ {k n : ℕ} (hn : n < k) : from' (k := k) n = insert ⟨n, hn⟩ (from' (n + 1)) := by
  ext h; simp only [from', Finset.mem_filter, Finset.mem_univ, true_and, Finset.mem_insert, Fin.ext_iff]; omega
theorem from_not_mem {k n : ℕ} (hn : n < k) : (⟨n, hn⟩ : Fin k) ∉ from' (k := k) (n + 1) := by
  simp [from']

/-- The arrivals device `c` still owes its right neighbour: those of the first ring from `A` on, of the second from `R` on. -/
def owedXfer (c : Dev nD) (A R : ℕ) : CellTallies nD τ sig Unit :=
  (∑ h ∈ from' A, tallyAt (xc (nxt c) 1 h) () N) + ∑ t ∈ from' R, tallyAt (xc (nxt c) 3 t) () N

theorem owedXfer_ag (c : Dev nD) (h : Fin 15) (R : ℕ) : owedXfer c h.val R = owedXfer c (h.val + 1) R + tallyAt (xc (nxt c) 1 h) () N := by
  unfold owedXfer; rw [from_succ h.isLt, Finset.sum_insert (from_not_mem h.isLt), add_comm (tallyAt _ () N), add_right_comm]
theorem owedXfer_rs (c : Dev nD) (A : ℕ) (t : Fin 15) : owedXfer c A t.val = owedXfer c A (t.val + 1) + tallyAt (xc (nxt c) 3 t) () N := by
  unfold owedXfer; rw [from_succ t.isLt, Finset.sum_insert (from_not_mem t.isLt), add_comm (tallyAt _ () N), ← add_assoc]
theorem from_past {k n : ℕ} (hn : k ≤ n) : from' (k := k) n = ∅ := by
  ext h; have := h.isLt; simp only [from', Finset.mem_filter, Finset.mem_univ, true_and, Finset.notMem_empty, iff_false]; omega
theorem owedXfer_none (c : Dev nD) (A R : ℕ) (hA : 15 ≤ A) (hR : 15 ≤ R) : owedXfer c A R = 0 := by
  unfold owedXfer; rw [from_past hA, from_past hR, Finset.sum_empty, Finset.sum_empty, add_zero]

/-- What is owed at launch: all arrivals, and a unit to either neighbour's barrier. -/
def O₁ (c : Dev nD) : CellTallies nD τ sig Unit := owedXfer c 0 0 + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a cell: departures and staging 0, the barrier 1, then the arrivals in the order they are waited for. -/
def lvk : Cell → ℕ
  | none => 1
  | some (1, h) => 2 * h.val + 2
  | some (3, t) => 2 * t.val + 5
  | some _ => 0
def lv (g : GSem nD τ sig) (_ : Unit) : ℕ := match dec g.2 with | none => 0 | some k => lvk k

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cell) (u : Unit) : lv (kcell (c, k)) u = lvk k := by
  unfold lv; rw [dec_csem]

theorem sum_tally_pos {k : ℕ} {S : Finset (Fin k)} {f : Fin k → GSem nD τ sig} {g : GSem nD τ sig} {u : Unit}
    (h : 0 < (∑ i ∈ S, tallyAt (f i) () N : CellTallies nD τ sig Unit) g u) : ∃ i ∈ S, g = f i := by
  rw [Finset.sum_apply, Finsupp.finset_sum_apply] at h
  obtain ⟨i, hi, hp⟩ := Finset.exists_ne_zero_of_sum_ne_zero h.ne'
  refine ⟨i, hi, ?_⟩
  rw [tallyAt_apply] at hp
  by_contra hn
  exact hp (if_neg fun h' => hn h'.1)

theorem owedXfer_pos {c : Dev nD} {A R : ℕ} {g : GSem nD τ sig} {u : Unit} (h : 0 < owedXfer c A R g u) :
    (∃ i : Fin 15, A ≤ i.val ∧ g = xc (nxt c) 1 i) ∨ ∃ i : Fin 15, R ≤ i.val ∧ g = xc (nxt c) 3 i := by
  unfold owedXfer at h
  rw [Pi.add_apply, Finsupp.add_apply] at h
  rcases Nat.eq_zero_or_pos ((∑ h ∈ from' A, tallyAt (xc (nxt c) 1 h) () N : CellTallies nD τ sig Unit) g u) with h0 | h0
  · rw [h0, zero_add] at h
    obtain ⟨i, hi, rfl⟩ := sum_tally_pos h
    exact Or.inr ⟨i, (Finset.mem_filter.mp hi).2, rfl⟩
  · obtain ⟨i, hi, rfl⟩ := sum_tally_pos h0
    exact Or.inl ⟨i, (Finset.mem_filter.mp hi).2, rfl⟩

/-- A device may wait at a cell whose level lies below everything it still owes. -/
theorem mayWait_x (c : Dev nD) (k : Cell) (A R : ℕ) (hA : lvk k < 2 * A + 2) (hR : lvk k < 2 * R + 5) :
    (levAts L lv : sProp 𝕄) ⊢ MayWait (c : Thread nD τ) (csem k) () (owedXfer c A R) :=
  MayOwe.of_cut (L := L) (lev := lv) (lvk k) (fun p hp => by rw [Finset.mem_singleton.mp hp, L_tc]; exact Finset.mem_singleton_self _)
    (fun g u hg => by rcases owedXfer_pos hg with ⟨i, -, rfl⟩ | ⟨i, -, rfl⟩ <;> exact Finset.mem_singleton_self _)
    (fun p hp => by rw [Finset.mem_singleton.mp hp]; exact (lv_kcell c k ()).le)
    (fun g u hg => by
      rcases owedXfer_pos hg with ⟨i, hi, rfl⟩ | ⟨i, hi, rfl⟩
      · rw [lv_kcell]; show lvk k < 2 * i.val + 2; omega
      · rw [lv_kcell]; show lvk k < 2 * i.val + 5; omega)

theorem O₀_pos {c : Dev nD} {g : GSem nD τ sig} {u : Unit} (h : 0 < O₀ c g u) : ∃ (d : Dev nD) (k : Cell), g = kcell (d, k) ∧ 0 < lvk k := by
  unfold O₀ O₁ at h
  rw [Pi.add_apply, Finsupp.add_apply, Pi.add_apply, Finsupp.add_apply, tallyAt_apply, tallyAt_apply] at h
  by_cases h1 : g = barCell (prv c) ∧ u = ()
  · exact ⟨_, _, h1.1, Nat.one_pos⟩
  by_cases h2 : g = barCell (nxt c) ∧ u = ()
  · exact ⟨_, _, h2.1, Nat.one_pos⟩
  rw [if_neg h1, if_neg h2, add_zero, add_zero] at h
  rcases owedXfer_pos h with ⟨i, -, rfl⟩ | ⟨i, -, rfl⟩
  · exact ⟨_, _, rfl, Nat.succ_pos _⟩
  · exact ⟨_, _, rfl, Nat.succ_pos _⟩

/-- The staging waits lie below everything owed at launch. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by rw [Finset.mem_singleton.mp hp]; dsimp only [lv]; rw [hq])
      (fun g u hg => by obtain ⟨d, k, rfl, hk⟩ := O₀_pos hg; rw [lv_kcell]; exact hk)
  · rw [MayWait_zero]; iintro -; iempintro

end Cert.KernelIdeal.Ring
end
-- ==== Proof.Rules.lean ====
/-
  One rule per step of the body: what a device must hold before the step and what it holds after.
-/
module

public import proofs.«01_k».proof.Proof.Schedule
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

abbrev 𝒱₀ : Variants := Variants.none

/-- What must hold before device `c` runs `p` for `Q` to hold after it. -/
abbrev WP (c : Dev nD) {α : Type} (p : Prog (TpuEff nD τ sig (Elt F) Λ₀ (.tc : Proc τ)) α) (Q : α → sProp 𝕄) : sProp 𝕄 :=
  wp frame (wpE (defs₀ (F := F)) 𝒱₀ (c : Thread nD τ) none) Set.univ p Q

/-! ## Loads and stores -/

/-- A load of a slot reads what the slot holds. -/
theorem slot_load {s s' : Shape} {e : EltTy} (M : Memref sig .tc .vmem s e) (r : Rect s) (hr : ∀ a, r.stride a = 1)
    (hq : r.shape.Squeezes s') (hc : s'.ShapeCasts r.shape) {hl : M.view.LoadsAt r.toLoadRect} (c : Dev nD) {q : PosShare TreeShare}
    {X : s'.Idx → Elt F e} {α : Type} {k : (r.shape.Idx → Elt F e) → Prog (TpuEff nD τ sig (Elt F) Λ₀ (.tc : Proc τ)) α} {Q : α → sProp 𝕄} :
    (owns (c : Thread nD τ) ((M.slice r hr).squeeze s' hq) q X : sProp 𝕄)
      ⊢ iprop((owns (c : Thread nD τ) ((M.slice r hr).squeeze s' hq) q X -∗ WP c (k (shapeCast r.shape X hc)) Q)
        -∗ WP c (.op (.load M r.toLoadRect hl) k) Q) := by
  unfold owns
  iintro ⟨%f, %hf, H⟩ Hk
  have he : M.view.readAt (Elt F) r.toLoadRect f = shapeCast r.shape X hc := by
    subst hf
    exact (shapeCast_shapeCast (M.view.readAt (Elt F) r.toLoadRect f) hc.symm hc).symm
  iapply (wp_load 𝒱₀ (c : Thread nD τ) none Set.univ (m := M) (
    ((M.view.set_slice r).symm.trans (View.set_reshape (v := (M.slice r hr).view) hq.numel_eq).symm).subset)) $$ H
  iintro H
  rw [he]
  iapply Hk
  iexists f
  isplitr
  · ipureintro; exact hf
  iexact H

/-- A store into a slot leaves the payload in it. -/
theorem slot_store {s s' : Shape} {e : EltTy} (M : Memref sig .tc .vmem s e) (r : Rect s) (hr : ∀ a, r.stride a = 1)
    (hq : r.shape.Squeezes s') (hc : s'.ShapeCasts r.shape) {hx : (M.access r).Stores Finset.univ} {hm} (c : Dev nD)
    {w : r.shape.Idx → Elt F e} {X : s'.Idx → Elt F e} (Y : s'.Idx → Elt F e) (hw : shapeCast s' w hc.symm = Y)
    {α : Type} {k : PUnit → Prog (TpuEff nD τ sig (Elt F) Λ₀ (.tc : Proc τ)) α} {Q : α → sProp 𝕄} :
    (owns (c : Thread nD τ) ((M.slice r hr).squeeze s' hq) fullShare X : sProp 𝕄)
      ⊢ iprop((owns (c : Thread nD τ) ((M.slice r hr).squeeze s' hq) fullShare Y -∗ WP c (k ⟨⟩) Q)
        -∗ WP c (.op (.store M r w Finset.univ hx hm) k) Q) := by
  unfold owns
  iintro ⟨%f, %hf, H⟩ Hk
  iapply (wp_store 𝒱₀ (c : Thread nD τ) none Set.univ (m := M) (r := r) (Mk := Finset.univ) (
    (View.set_reshape (v := (M.slice r hr).view) hq.numel_eq).symm.subset)) $$ H
  iintro H
  iapply Hk
  iexists ((M.access r).write (Elt F) f w Finset.univ)
  isplitr
  · ipureintro
    show shapeCast s' ((M.access r).read (Elt F) ((M.access r).write (Elt F) f w Finset.univ)) hc.symm = Y
    rw [View.read_write_univ]
    exact hw
  iexact H

theorem hz2 : (![0, 0] : Fin 2 → Nat) = fun _ => 0 := funext fun a => by fin_cases a <;> rfl
theorem hz3 : (![0, 0, 0] : Fin 3 → Nat) = fun _ => 0 := funext fun a => by fin_cases a <;> rfl

/-- A load of everything a memref names reads its contents; a store replaces them. -/
theorem full_load {s : Shape} {e : EltTy} (M : Memref sig .tc .vmem s e) {off : Fin s.rank → ℕ} (h0 : off = fun _ => 0)
    (inb : ∀ a, off a + s.size a ≤ s.size a) {hl : M.view.LoadsAt (Rect.unit off s.size inb).toLoadRect} (c : Dev nD) {q : PosShare TreeShare}
    {X : s.Idx → Elt F e} {α : Type} {k : (s.Idx → Elt F e) → Prog (TpuEff nD τ sig (Elt F) Λ₀ (.tc : Proc τ)) α} {Q : α → sProp 𝕄} :
    (owns (c : Thread nD τ) M q X : sProp 𝕄)
      ⊢ iprop((owns (c : Thread nD τ) M q X -∗ WP c (k X) Q) -∗ WP c (.op (.load M (Rect.unit off s.size inb).toLoadRect hl) k) Q) := by
  unfold owns
  iintro ⟨%f, %hf, H⟩ Hk
  have he : M.view.readAt (Elt F) (Rect.unit off s.size inb).toLoadRect f = X := by
    subst hf; exact View.ld_unit_zero h0 inb (M.view.read (Elt F) f)
  iapply (wp_load 𝒱₀ (c : Thread nD τ) none Set.univ (m := M)
    ((M.view.set_slice (Rect.unit off s.size inb)).symm.subset.trans (M.view.set_slice_subset (Rect.unit off s.size inb)))) $$ H
  iintro H
  rw [he]
  iapply Hk
  iexists f
  isplitr
  · ipureintro; exact hf
  iexact H

theorem full_store {s : Shape} {e : EltTy} (M : Memref sig .tc .vmem s e) {off : Fin s.rank → ℕ} (h0 : off = fun _ => 0)
    (inb : ∀ a, off a + s.size a ≤ s.size a) {w : s.Idx → Elt F e} {hx : (M.access (Rect.unit off s.size inb)).Stores Finset.univ} {hm} (c : Dev nD)
    {X : s.Idx → Elt F e} {α : Type} {k : PUnit → Prog (TpuEff nD τ sig (Elt F) Λ₀ (.tc : Proc τ)) α} {Q : α → sProp 𝕄} :
    (owns (c : Thread nD τ) M fullShare X : sProp 𝕄)
      ⊢ iprop((owns (c : Thread nD τ) M fullShare w -∗ WP c (k ⟨⟩) Q)
        -∗ WP c (.op (.store M (Rect.unit off s.size inb) w Finset.univ hx hm) k) Q) := by
  unfold owns
  iintro ⟨%f, %hf, H⟩ Hk
  iapply (wp_store 𝒱₀ (c : Thread nD τ) none Set.univ (m := M) (r := Rect.unit off s.size inb) (Mk := Finset.univ)
    (M.view.set_slice_subset (Rect.unit off s.size inb))) $$ H
  iintro H
  iapply Hk
  iexists ((M.access (Rect.unit off s.size inb)).write (Elt F) f w Finset.univ)
  isplitr
  · ipureintro
    refine (View.ld_unit_zero h0 inb (M.view.read (Elt F) _)).symm.trans ?_
    exact View.read_write_univ (v := M.access (Rect.unit off s.size inb)) f w
  iexact H

/-- A program that is done. -/
theorem ret_rule (c : Dev nD) {α : Type} {a : α} {Q : α → sProp 𝕄} : Q a ⊢ WP c (.ret a) Q := by
  unfold WP; rw [wp_ret]; iintro H; imodintro; iexact H

/-! ## The cells' invariants -/

/-- Every cell's invariant, and that every cell is at its round. -/
def records : sProp 𝕄 :=
  iprop((bigSep Finset.univ fun ck : Dev nD × Cell => cellInv ER (sched m ρ) (K ck) (kcell ck))
    ∗ bigSep Finset.univ fun ck : Dev nD × Cell => reached ER (kcell ck) 0)
instance records_persistent : BI.Persistent (records m ρ K) := by unfold records; infer_instance

/-- With the levels: what every step may use. -/
def ctx : sProp 𝕄 := iprop(records m ρ K ∗ levAts L lv)
instance ctx_persistent : BI.Persistent (ctx m ρ K) := by unfold ctx; infer_instance

theorem ctx_inv (ck : Dev nD × Cell) : ctx m ρ K ⊢ cellInv ER (sched m ρ) (K ck) (kcell ck) := by
  unfold ctx records
  iintro ⟨⟨H, -⟩, -⟩
  iapply (show (bigSep Finset.univ fun ck : Dev nD × Cell => (cellInv ER (sched m ρ) (K ck) (kcell ck) : sProp 𝕄)) ⊢ cellInv ER (sched m ρ) (K ck) (kcell ck)
    from bigSep_elim (Finset.mem_univ ck)); iexact H
theorem ctx_reached (ck : Dev nD × Cell) : ctx m ρ K ⊢ reached ER (kcell ck) 0 := by
  unfold ctx records
  iintro ⟨⟨-, H⟩, -⟩
  iapply (show (bigSep Finset.univ fun ck : Dev nD × Cell => (reached ER (kcell ck) 0 : sProp 𝕄)) ⊢ reached ER (kcell ck) 0 from bigSep_elim (Finset.mem_univ ck)); iexact H
theorem mayWait_ctx (c : Dev nD) (k : Cell) (A R : ℕ) (hA : lvk k < 2 * A + 2) (hR : lvk k < 2 * R + 5) :
    ctx m ρ K ⊢ MayWait (c : Thread nD τ) (csem k) () (owedXfer c A R) := by
  unfold ctx
  iintro ⟨-, H⟩
  iapply (mayWait_x c k A R hA hR); iexact H

/-! ## Transfers -/

/-- What a device owes, whatever it has waited for. -/
def owesX (c : Dev nD) (O : CellTallies nD τ sig Unit) : sProp 𝕄 := iprop(∃ W, owes (c : Thread nD τ) O W)
/-- The right to start transfer `h` from array `a` of `c` to array `b` of its right neighbour. -/
def tok (c : Dev nD) (a b : Fin 4) (h : Fin 15) : sProp 𝕄 :=
  iprop(dutyTok ER (xc c a h) 0 false ∗ dutyTok ER (xc (nxt c) b h) 0 false ∗ atPos ER (xc c a h) 0 ∅ 0)
/-- The right to wait at a transfer cell for a whole transfer. -/
def due (c : Dev nD) (a : Fin 4) (h : Fin 15) : sProp 𝕄 := iprop(cred (tallyAt (xc c a h) () N) ∗ atPos ER (xc c a h) 0 ∅ 0)

/-- Starting a transfer to the right neighbour. -/
theorem xfer_start (c : Dev nD) (a b : Fin 4) (h : Fin 15) (src dst : Memref sig .tc .vmem S2x128x512 .bf16) {q : PosShare TreeShare}
    {X : FVec F S2x128x512 .bf16} (hN : dst.view.dmaCredit = N)
    (hp₁ : (owns (c : Thread nD τ) src q X : sProp 𝕄) ⊢ xferPay m ρ c a h)
    (hp₂ : (owns (nxt c : Thread nD τ) dst fullShare X : sProp 𝕄) ⊢ xferPay m ρ (nxt c) b h)
    {O₀ : CellTallies nD τ sig Unit} (O : CellTallies nD τ sig Unit) (hO : O₀ = O + tallyAt (xc (nxt c) b h) () N)
    {hsc : dst.view.ref.isScScratch = false} {hsrc : src.view.WordExact} {hdst : dst.view.WordExact}
    {hsem : DmaTarget.Typed .vmem (.dma (arrS b h)) (.remote (Dev.tc (nxt c) : Thread nD τ) dst (.dma (arrS a h)) hsc)}
    {α : Type} {k : PUnit → Prog (TpuEff nD τ sig (Elt F) Λ₀ (.tc : Proc τ)) α} {Q : α → sProp 𝕄} :
    iprop(ctx m ρ K ∗ tok c a b h ∗ owns (c : Thread nD τ) src q X ∗ (∃ Y, owns (nxt c : Thread nD τ) dst fullShare Y) ∗ owesX c O₀)
      ⊢ iprop(((due c a h ∗ owesX c O) -∗ WP c (k ⟨⟩) Q)
          -∗ WP c (.op (.enqueueDma src (.remote (Dev.tc (nxt c) : Thread nD τ) dst (.dma (arrS a h)) hsc) (.dma (arrS b h)) hsrc hdst hsem) k) Q) := by
  unfold tok due owesX owns
  iintro ⟨#Hctx, ⟨Ht₁, Ht₂, Hat⟩, ⟨%fs, %hfs, Hs⟩, ⟨%Y, %fd, %hfd, Hd⟩, %W, HO⟩ Hk
  iapply (Rounds.wp_send_pointsTo 𝒱₀ ER (sched m ρ) (c : Thread nD τ) none (κ₁ := K (c, some (a, h))) (κ₂ := K (nxt c, some (b, h)))
    (c' := (Dev.tc (nxt c) : Thread nD τ)) (src := src) (dst := dst)
    (r₁ := 0) (r₂ := 0) (d₁ := false) (d₂ := false) (fs := fs) (fd := fd) (q := q)
    (by rw [duties_x]; exact Finset.mem_singleton_self _) (by rw [duties_x]; exact Finset.mem_singleton_self _)
    () () N (by exact hN) (amount_x m ρ c a h false) (amount_x m ρ (nxt c) b h false) O hO (W := W)
    (by
      rw [payload_x]
      refine BIBase.Entails.trans ?_ hp₁
      unfold owns
      iintro H; iexists fs; isplitr
      · ipureintro; exact hfs
      iexact H)
    (by
      rw [payload_x]
      refine BIBase.Entails.trans ?_ hp₂
      unfold owns
      iintro H; iexists (dst.view.write (Elt F) fd (src.view.read (Elt F) fs) Finset.univ); isplitr
      · ipureintro; rw [View.read_write_univ]; exact hfs
      iexact H)) $$ [Hs Hd HO Ht₁ Ht₂]
  · isplitr; · iapply (ctx_inv m ρ K (c, some (a, h))); iexact Hctx
    isplitr; · iapply (ctx_inv m ρ K (nxt c, some (b, h))); iexact Hctx
    isplitl [Hs]; · iexact Hs
    isplitl [Hd]; · iexact Hd
    isplitl [HO]; · iexact HO
    isplitl [Ht₁]; · iexact Ht₁
    isplitr; · iapply (ctx_reached m ρ K (c, some (a, h))); iexact Hctx
    isplitl [Ht₂]; · iexact Ht₂
    iapply (ctx_reached m ρ K (nxt c, some (b, h))); iexact Hctx
  iintro ⟨Hc, HO⟩
  iapply Hk
  isplitl [Hc Hat]
  · isplitl [Hc] <;> iassumption
  iexists W; iexact HO

/-- Waiting for a transfer: its payload comes back, and the cell, done with, is closed. -/
theorem xfer_wait (c : Dev nD) (a : Fin 4) (h : Fin 15) (src dst : Memref sig .tc .vmem S2x128x512 .bf16) (hN : dst.view.dmaCredit = N) (A R : ℕ)
    (hA : lvk (some (a, h)) < 2 * A + 2) (hR : lvk (some (a, h)) < 2 * R + 5) {hsrc : src.view.WordExact} {hdst : dst.view.WordExact}
    {α : Type} {k : PUnit → Prog (TpuEff nD τ sig (Elt F) Λ₀ (.tc : Proc τ)) α} {Q : α → sProp 𝕄} :
    iprop(ctx m ρ K ∗ due c a h ∗ owesX c (owedXfer c A R))
      ⊢ iprop(((xferPay m ρ c a h ∗ semVal (xc c a h) 0 ∗ owesX c (owedXfer c A R)) -∗ WP c (k ⟨⟩) Q)
          -∗ WP c (.op (.waitDma2 (arrS a h) src dst hsrc hdst) k) Q) := by
  have hw := mayWait_ctx m ρ K c (some (a, h)) A R hA hR
  unfold due owesX
  iintro ⟨#Hctx, ⟨Hc, Hat⟩, %W, HO⟩ Hk
  iapply (Rounds.wp_wait_rest_token 𝒱₀ ER (sched m ρ) (c : Thread nD τ) none (κ := K (c, some (a, h)))
      (wpE_waitDma2_eq 𝒱₀ (c : Thread nD τ) none Set.univ) (Set.mem_univ _) () (O := owedXfer c A R) (W := W) (R := 0) (m := 0) (T := ∅)
      ((Nat.zero_add _).trans (hN.trans (expect_x m ρ c a h).symm))) $$ [Hc HO Hat]
  · isplitr; · iapply (ctx_inv m ρ K (c, some (a, h))); iexact Hctx
    isplitl [Hc]; · rw [hN]; iexact Hc
    isplitl [HO]; · iexact HO
    isplitr; · iapply hw; iexact Hctx
    iexact Hat
  iintro ⟨HO, Hat, -, Hpay⟩
  ihave Hp := (Entails.of_eq (rest_x m ρ c a h)) $$ Hpay
  imod (Rounds.cell_close ER (sched m ρ) (Set.mem_univ (K (c, some (a, h)))) (fun h => h) (R := 0 + 1) (duties_later m ρ (xc c a h))) $$ [Hat] with Hz
  · isplitr; · iapply (ctx_inv m ρ K (c, some (a, h))); iexact Hctx
    iexact Hat
  iapply Hk
  isplitl [Hp]; · iexact Hp
  isplitl [Hz]; · iexact Hz
  iexists (insert (SemLoc.dma (arrS a h), ()) W); iexact HO

end Cert.KernelIdeal.Ring
end
-- ==== Proof.StepRules.lean ====
/-
  The named steps of the body, one rule each: from what a device holds before the step to what it holds after, with the
  contents of every slot in terms of the ring (`slotX`, `partAt`, `runSum`).
-/
module

public import proofs.«01_k».proof.Proof.Rules

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-- Two programs one after the other. -/
theorem seq (c : Dev nD) {α β : Type} (p : Prog (TpuEff nD τ sig (Elt F) Λ₀ (.tc : Proc τ)) α)
    (k : α → Prog (TpuEff nD τ sig (Elt F) Λ₀ (.tc : Proc τ)) β) (Q : β → sProp 𝕄) :
    WP c (p >>= k) Q = WP c p (fun a => WP c (k a) Q) := wp_bind _ _ _ _ _ _

section Steps
variable (c : Dev nD)

/-! ## The transfers -/

theorem credit_xg (r : Fin 16) : (xgS r).view.dmaCredit = N := rfl
theorem credit_rs (r : Fin 15) : (rsS r).view.dmaCredit = N := rfl
theorem credit_rr (r : Fin 15) : (rrS r).view.dmaCredit = N := rfl

/-- Sending activation slot `h` on keeps half of it to read from. -/
theorem agStart_rule (h : Fin 15) (R : ℕ) {Q : PUnit → sProp 𝕄} :
    iprop(ctx m ρ K ∗ tok c 0 1 h ∗ xg c h.castSucc fullShare (slotX m ρ c h.val) ∗ (∃ Y, xg (nxt c) h.succ fullShare Y)
        ∗ owesX c (owedXfer c h.val R))
      ⊢ iprop(((xg c h.castSucc fullShare.left (slotX m ρ c h.val) ∗ due c 0 h ∗ owesX c (owedXfer c (h.val + 1) R)) -∗ Q ⟨⟩)
        -∗ WP c (agStart (nxt c) h) Q) := by
  unfold agStart Prog.lift
  iintro ⟨#Hctx, Ht, Hx, Hd, HO⟩ Hk
  ihave Hx2 := (owns_halves (c : Thread nD τ) (xgS h.castSucc) fullShare (slotX m ρ c h.val)).1 $$ Hx
  icases Hx2 with ⟨Hl, Hr⟩
  iapply (xfer_start m ρ K c 0 1 h (xgS h.castSucc) (xgS h.succ) (q := fullShare.right) (X := slotX m ρ c h.val) (credit_xg _)
    (BI.Entails.refl _) (by show _ ⊢ xg (nxt c) h.succ fullShare (slotX m ρ (nxt c) (h.val + 1)); rw [slotX_nxt])
    (owedXfer c (h.val + 1) R) (owedXfer_ag c h R)) $$ [Ht Hr Hd HO]
  · isplitr; · iexact Hctx
    isplitl [Ht]; · iexact Ht
    isplitl [Hr]; · iexact Hr
    isplitl [Hd] <;> iassumption
  iintro ⟨Hdue, HO⟩
  iapply (ret_rule c)
  iapply Hk
  isplitl [Hl]; · iexact Hl
  isplitl [Hdue] <;> iassumption

/-- Sending running sum `t`. -/
theorem rsStart_rule (t : Fin 15) (A : ℕ) {Q : PUnit → sProp 𝕄} :
    iprop(ctx m ρ K ∗ tok c 2 3 t ∗ rs c t (runSum m ρ t.val c) ∗ (∃ Y, rr (nxt c) t Y) ∗ owesX c (owedXfer c A t.val))
      ⊢ iprop(((due c 2 t ∗ owesX c (owedXfer c A (t.val + 1))) -∗ Q ⟨⟩) -∗ WP c (rsStart (nxt c) t) Q) := by
  unfold rsStart Prog.lift
  iintro ⟨#Hctx, Ht, Hr, Hd, HO⟩ Hk
  iapply (xfer_start m ρ K c 2 3 t (rsS t) (rrS t) (q := fullShare) (X := runSum m ρ t.val c) (credit_rr _)
    (BI.Entails.refl _) (by show _ ⊢ rr (nxt c) t (runSum m ρ t.val (prv (nxt c))); rw [prv_nxt])
    (owedXfer c A (t.val + 1)) (owedXfer_rs c A t)) $$ [Ht Hr Hd HO]
  · isplitr; · iexact Hctx
    isplitl [Ht]; · iexact Ht
    isplitl [Hr]; · iexact Hr
    isplitl [Hd] <;> iassumption
  iintro ⟨Hdue, HO⟩
  iapply (ret_rule c)
  iapply Hk
  isplitl [Hdue] <;> iassumption

/-- The four waits: the payload and the closed cell. -/
theorem agWait_rule (h : Fin 15) (A R : ℕ) (hA : lvk (some (1, h)) < 2 * A + 2) (hR : lvk (some (1, h)) < 2 * R + 5) {Q : PUnit → sProp 𝕄} :
    iprop(ctx m ρ K ∗ due c 1 h ∗ owesX c (owedXfer c A R))
      ⊢ iprop(((xg c h.succ fullShare (slotX m ρ c (h.val + 1)) ∗ semVal (xc c 1 h) 0 ∗ owesX c (owedXfer c A R)) -∗ Q ⟨⟩) -∗ WP c (agWait h) Q) := by
  unfold agWait Prog.lift
  iintro H Hk
  iapply (xfer_wait m ρ K c 1 h (xgS h.castSucc) (xgS h.succ) (credit_xg _) A R hA hR) $$ H
  iintro H
  iapply (ret_rule c)
  iapply Hk; iexact H
theorem agDone_rule (h : Fin 15) (A R : ℕ) {Q : PUnit → sProp 𝕄} :
    iprop(ctx m ρ K ∗ due c 0 h ∗ owesX c (owedXfer c A R))
      ⊢ iprop(((xg c h.castSucc fullShare.right (slotX m ρ c h.val) ∗ semVal (xc c 0 h) 0 ∗ owesX c (owedXfer c A R)) -∗ Q ⟨⟩) -∗ WP c (agDone h) Q) := by
  unfold agDone Prog.lift
  iintro H Hk
  iapply (xfer_wait m ρ K c 0 h (xgS h.succ) (xgS h.castSucc) (credit_xg _) A R (Nat.succ_pos _) (Nat.succ_pos _)) $$ H
  iintro H
  iapply (ret_rule c)
  iapply Hk; iexact H
theorem rsWait_rule (t : Fin 15) (A R : ℕ) (hA : lvk (some (3, t)) < 2 * A + 2) (hR : lvk (some (3, t)) < 2 * R + 5) {Q : PUnit → sProp 𝕄} :
    iprop(ctx m ρ K ∗ due c 3 t ∗ owesX c (owedXfer c A R))
      ⊢ iprop(((rr c t (runSum m ρ t.val (prv c)) ∗ semVal (xc c 3 t) 0 ∗ owesX c (owedXfer c A R)) -∗ Q ⟨⟩) -∗ WP c (rsWait t) Q) := by
  unfold rsWait Prog.lift
  iintro H Hk
  iapply (xfer_wait m ρ K c 3 t (rsS t) (rrS t) (credit_rr _) A R hA hR) $$ H
  iintro H
  iapply (ret_rule c)
  iapply Hk; iexact H
theorem rsDone_rule (t : Fin 15) (A R : ℕ) {Q : PUnit → sProp 𝕄} :
    iprop(ctx m ρ K ∗ due c 2 t ∗ owesX c (owedXfer c A R))
      ⊢ iprop(((rs c t (runSum m ρ t.val c) ∗ semVal (xc c 2 t) 0 ∗ owesX c (owedXfer c A R)) -∗ Q ⟨⟩) -∗ WP c (rsDone t) Q) := by
  unfold rsDone Prog.lift
  iintro H Hk
  iapply (xfer_wait m ρ K c 2 t (rrS t) (rsS t) (credit_rs _) A R (Nat.succ_pos _) (Nat.succ_pos _)) $$ H
  iintro H
  iapply (ret_rule c)
  iapply Hk; iexact H

/-! ## The barrier -/

/-- After the barrier a device holds its right neighbour's landing slots in place of its own. -/
theorem barrier_rule {Q : PUnit → sProp 𝕄} :
    iprop(ctx m ρ K ∗ dutyTok ER (barCell (prv c)) 0 true ∗ dutyTok ER (barCell (nxt c)) 0 false ∗ bigSep Finset.univ (landing c)
        ∗ cred (tallyAt (barCell c) () 2) ∗ atPos ER (barCell c) 0 ∅ 0 ∗ owesX c (O₀ c))
      ⊢ iprop(((bigSep Finset.univ (landing (nxt c)) ∗ semVal (barCell c) 0 ∗ owesX c (owedXfer c 0 0)) -∗ Q ⟨⟩)
        -∗ WP c (barrier (prv c) (nxt c)) Q) := by
  have hw := mayWait_ctx m ρ K c none 0 0 (by decide) (by decide)
  unfold barrier owesX
  simp only [semSignalWord, semWaitWord, Prog.lift, Prog.bind_op, Prog.bind_ret, Prog.pure_eq_ret]
  iintro ⟨#Hctx, HtP, HtN, Hl, Hc, Hat, %W, HO⟩ Hk
  iapply (Rounds.wp_signal 𝒱₀ ER (sched m ρ) (c : Thread nD τ) none (dst := (prv c : Thread nD τ)) (κ := K (prv c, none)) (r := 0)
      (d := true) (by rw [duties_bar]; exact Finset.mem_univ _) ((amount_bar m ρ (prv c) true).trans (by decide)) () (O₁ c) rfl)
    $$ [HO HtP Hl]
  · isplitr; · iapply (ctx_inv m ρ K (prv c, none)); iexact Hctx
    isplitl [HO]; · iexact HO
    isplitl [HtP]; · iexact HtP
    isplitl [Hl]
    · rw [payload_bar, if_pos rfl]; unfold barPay; rw [nxt_prv]; iexact Hl
    iapply (ctx_reached m ρ K (prv c, none)); iexact Hctx
  iintro HO
  iapply (Rounds.wp_signal 𝒱₀ ER (sched m ρ) (c : Thread nD τ) none (dst := (nxt c : Thread nD τ)) (κ := K (nxt c, none)) (r := 0)
      (d := false) (by rw [duties_bar]; exact Finset.mem_univ _) ((amount_bar m ρ (nxt c) false).trans (by decide)) () (owedXfer c 0 0) rfl)
    $$ [HO HtN]
  · isplitr; · iapply (ctx_inv m ρ K (nxt c, none)); iexact Hctx
    isplitl [HO]; · iexact HO
    isplitl [HtN]; · iexact HtN
    isplitr; · rw [payload_bar, if_neg (by decide)]; iempintro
    iapply (ctx_reached m ρ K (nxt c, none)); iexact Hctx
  iintro HO
  iapply (Rounds.wp_wait_rest_token 𝒱₀ ER (sched m ρ) (c : Thread nD τ) none (κ := K (c, none))
      (wpE_semWait_eq 𝒱₀ (c : Thread nD τ) none Set.univ) (Set.mem_univ _) () (O := owedXfer c 0 0) (W := W) (R := 0) (m := 0) (T := ∅)
      (by rw [expect_bar]; decide)) $$ [Hc HO Hat]
  · isplitr; · iapply (ctx_inv m ρ K (c, none)); iexact Hctx
    isplitl [Hc]; · iexact Hc
    isplitl [HO]; · iexact HO
    isplitr; · iapply hw; iexact Hctx
    iexact Hat
  iintro ⟨HO, Hat, -, Hpay⟩
  ihave Hp := (Entails.of_eq (rest_bar m ρ c)) $$ Hpay
  icases Hp with ⟨-, Hl⟩
  imod (Rounds.cell_close ER (sched m ρ) (Set.mem_univ (K (c, none))) (fun h => h) (R := 0 + 1) (duties_later m ρ (barCell c))) $$ [Hat] with Hz
  · isplitr; · iapply (ctx_inv m ρ K (c, none)); iexact Hctx
    iexact Hat
  iapply (ret_rule c)
  iapply Hk
  isplitl [Hl]; · unfold barPay; iexact Hl
  isplitl [Hz]; · iexact Hz
  iexists (insert (SemLoc.reg barS, ()) W); iexact HO

/-! ## The local steps -/

/-- A weight block is copied into its local buffer. -/
theorem copyW_rule (a b : Memref sig .tc .vmem S512x512 .bf16) (hb : b.IsWhole) (X : FVec F S512x512 .bf16) {Q : PUnit → sProp 𝕄} :
    iprop(owns (c : Thread nD τ) a fullShare X ∗ (∃ Y, owns (c : Thread nD τ) b fullShare Y))
      ⊢ iprop(((owns (c : Thread nD τ) a fullShare X ∗ owns (c : Thread nD τ) b fullShare X) -∗ Q ⟨⟩) -∗ WP c (copyW a b hb) Q) := by
  unfold copyW
  simp only [ldW, stW, Prog.lift, Prog.bind_op, Prog.bind_ret]
  iintro ⟨Ha, %Y, Hb⟩ Hk
  iapply (full_load a hz2 _ c) $$ Ha; iintro Ha
  iapply (full_load b hz2 _ c) $$ Hb; iintro Hb
  rw [shapeCast_shapeCast]
  iapply (full_store b hz2 _ c) $$ Hb; iintro Hb
  iapply (ret_rule c)
  iapply Hk
  isplitl [Ha] <;> iassumption

/-- The activations are copied into slot 0. -/
theorem copyX_rule (X : FVec F S2x128x512 .bf16) {Q : PUnit → sProp 𝕄} :
    iprop(owns (c : Thread nD τ) xM fullShare X ∗ (∃ Y, xg c 0 fullShare Y))
      ⊢ iprop(((owns (c : Thread nD τ) xM fullShare X ∗ xg c 0 fullShare X) -∗ Q ⟨⟩) -∗ WP c copyX Q) := by
  unfold copyX
  simp only [ldX, ldG, stG, Prog.lift, Prog.bind_op, Prog.bind_ret]
  iintro ⟨Ha, %Y, Hb⟩ Hk
  iapply (full_load xM hz3 _ c) $$ Ha; iintro Ha
  iapply (slot_load xgM (R16 0) (fun _ => rfl) squeezes_S1x2x128x512_S2x128x512 shapeCasts_S2x128x512_S1x2x128x512 c) $$ Hb; iintro Hb
  iapply (slot_store xgM (R16 0) (fun _ => rfl) squeezes_S1x2x128x512_S2x128x512 shapeCasts_S2x128x512_S1x2x128x512 c
    X ((shapeCast_shapeCast _ _ _).trans (shapeCast_self X _))) $$ Hb; iintro Hb
  iapply (ret_rule c)
  iapply Hk
  isplitl [Ha] <;> iassumption

/-- The local copies of the four weight blocks. -/
def weights : sProp 𝕄 :=
  iprop(owns (c : Thread nD τ) wqM fullShare (wqAt m ρ c) ∗ owns (c : Thread nD τ) wkM fullShare (wkAt m ρ c)
    ∗ owns (c : Thread nD τ) wvM fullShare (wvAt m ρ c) ∗ owns (c : Thread nD τ) woM fullShare (woAt m ρ c))

/-- A slot's contents as loaded and cast are the slot's contents. -/
theorem cast16 {A : Type} (r : Fin 16) (X : S2x128x512.Idx → A) :
    shapeCast S2x128x512 (shapeCast (R16 r).shape X shapeCasts_S2x128x512_S1x2x128x512) shapeCasts_S1x2x128x512_S2x128x512 = X :=
  shapeCast_shapeCast X _ _
theorem cast15 {A : Type} (r : Fin 15) (X : S2x128x512.Idx → A) :
    shapeCast S2x128x512 (shapeCast (R15 r).shape X shapeCasts_S2x128x512_S1x2x128x512) shapeCasts_S1x2x128x512_S2x128x512 = X :=
  shapeCast_shapeCast X _ _

/-- The attention of slot `r` becomes partial result `r`. -/
theorem slotStep_rule (r : Fin 16) {q : PosShare TreeShare} {Q : PUnit → sProp 𝕄} :
    iprop(xg c r q (slotX m ρ c r.val) ∗ weights m ρ c ∗ (∃ Y, pt c r Y))
      ⊢ iprop(((xg c r q (slotX m ρ c r.val) ∗ weights m ρ c ∗ pt c r (partAt m ρ c r.val)) -∗ Q ⟨⟩) -∗ WP c (slotStep r) Q) := by
  unfold slotStep weights
  simp only [ldG, ldW, ldP, stP, Prog.lift, Prog.bind_op, Prog.bind_ret]
  iintro ⟨Hx, ⟨Hq, Hkk, Hv, Ho⟩, %Y, Hp⟩ Hk
  iapply (slot_load xgM (R16 r) (fun _ => rfl) squeezes_S1x2x128x512_S2x128x512 shapeCasts_S2x128x512_S1x2x128x512 c) $$ Hx; iintro Hx
  iapply (full_load wqM hz2 _ c) $$ Hq; iintro Hq
  iapply (full_load wkM hz2 _ c) $$ Hkk; iintro Hkk
  iapply (full_load wvM hz2 _ c) $$ Hv; iintro Hv
  iapply (full_load woM hz2 _ c) $$ Ho; iintro Ho
  iapply (slot_load ptM (R16 r) (fun _ => rfl) squeezes_S1x2x128x512_S2x128x512 shapeCasts_S2x128x512_S1x2x128x512 c) $$ Hp; iintro Hp
  iapply (slot_store ptM (R16 r) (fun _ => rfl) squeezes_S1x2x128x512_S2x128x512 shapeCasts_S2x128x512_S1x2x128x512 c
    (partAt m ρ c r.val) ((shapeCast_shapeCast _ _ _).trans
      (congrArg (fun x => slotOut x (wqAt m ρ c) (wkAt m ρ c) (wvAt m ρ c) (woAt m ρ c)) (cast16 r (slotX m ρ c r.val))))) $$ Hp; iintro Hp
  iapply (ret_rule c)
  iapply Hk
  isplitl [Hx]; · iexact Hx
  isplitr [Hp]
  · isplitl [Hq]; · iexact Hq
    isplitl [Hkk]; · iexact Hkk
    isplitl [Hv] <;> iassumption
  iexact Hp

/-- The running sums. -/
theorem sumFirst_rule {Q : PUnit → sProp 𝕄} :
    iprop(pt c 1 (partAt m ρ c 1) ∗ (∃ Y, rs c 0 Y))
      ⊢ iprop(((pt c 1 (partAt m ρ c 1) ∗ rs c 0 (runSum m ρ 0 c)) -∗ Q ⟨⟩) -∗ WP c sumFirst Q) := by
  unfold sumFirst
  simp only [ldP, ldS, stS, Prog.lift, Prog.bind_op, Prog.bind_ret]
  iintro ⟨Hp, %Y, Hs⟩ Hk
  iapply (slot_load ptM (R16 1) (fun _ => rfl) squeezes_S1x2x128x512_S2x128x512 shapeCasts_S2x128x512_S1x2x128x512 c) $$ Hp; iintro Hp
  iapply (slot_load rsM (R15 0) (fun _ => rfl) squeezes_S1x2x128x512_S2x128x512 shapeCasts_S2x128x512_S1x2x128x512 c) $$ Hs; iintro Hs
  iapply (slot_store rsM (R15 0) (fun _ => rfl) squeezes_S1x2x128x512_S2x128x512 shapeCasts_S2x128x512_S1x2x128x512 c
    (runSum m ρ 0 c) ((shapeCast_shapeCast _ _ _).trans
      (congrArg (fun x : FVec F S2x128x512 .f32 => truncf .bf16 x bitsLt_bf16_f32) (cast16 1 (partAt m ρ c 1))))) $$ Hs; iintro Hs
  iapply (ret_rule c)
  iapply Hk
  isplitl [Hp] <;> iassumption

theorem sumStep_rule (n : Fin 14) {Q : PUnit → sProp 𝕄} :
    iprop(pt c n.succ.succ (partAt m ρ c (n.val + 2)) ∗ rr c n.castSucc (runSum m ρ n.val (prv c)) ∗ (∃ Y, rs c n.succ Y))
      ⊢ iprop(((pt c n.succ.succ (partAt m ρ c (n.val + 2)) ∗ rr c n.castSucc (runSum m ρ n.val (prv c)) ∗ rs c n.succ (runSum m ρ (n.val + 1) c)) -∗ Q ⟨⟩)
        -∗ WP c (sumStep n) Q) := by
  unfold sumStep
  simp only [ldP, ldR, ldS, stS, Prog.lift, Prog.bind_op, Prog.bind_ret]
  iintro ⟨Hp, Hr, %Y, Hs⟩ Hk
  iapply (slot_load ptM (R16 n.succ.succ) (fun _ => rfl) squeezes_S1x2x128x512_S2x128x512 shapeCasts_S2x128x512_S1x2x128x512 c) $$ Hp; iintro Hp
  iapply (slot_load rrM (R15 n.castSucc) (fun _ => rfl) squeezes_S1x2x128x512_S2x128x512 shapeCasts_S2x128x512_S1x2x128x512 c) $$ Hr; iintro Hr
  iapply (slot_load rsM (R15 n.succ) (fun _ => rfl) squeezes_S1x2x128x512_S2x128x512 shapeCasts_S2x128x512_S1x2x128x512 c) $$ Hs; iintro Hs
  iapply (slot_store rsM (R15 n.succ) (fun _ => rfl) squeezes_S1x2x128x512_S2x128x512 shapeCasts_S2x128x512_S1x2x128x512 c
    (runSum m ρ (n.val + 1) c) ((shapeCast_shapeCast _ _ _).trans
      (congrArg₂ (fun (x : FVec F S2x128x512 .f32) (y : FVec F S2x128x512 .bf16) => truncf .bf16 (addf x (extf .f32 y bitsLt_bf16_f32)) bitsLt_bf16_f32)
        (cast16 n.succ.succ (partAt m ρ c (n.val + 2))) (cast15 n.castSucc (runSum m ρ n.val (prv c)))))) $$ Hs; iintro Hs
  iapply (ret_rule c)
  iapply Hk
  isplitl [Hp]; · iexact Hp
  isplitl [Hr] <;> iassumption

theorem sumLast_rule {Q : PUnit → sProp 𝕄} :
    iprop(pt c 0 (partAt m ρ c 0) ∗ rr c 14 (runSum m ρ 14 (prv c)) ∗ (∃ Y, owns (c : Thread nD τ) outM fullShare Y))
      ⊢ iprop(((pt c 0 (partAt m ρ c 0) ∗ rr c 14 (runSum m ρ 14 (prv c)) ∗ owns (c : Thread nD τ) outM fullShare (outAt m ρ c)) -∗ Q ⟨⟩)
        -∗ WP c sumLast Q) := by
  unfold sumLast
  simp only [ldP, ldR, ldO, stO, Prog.lift, Prog.bind_op, Prog.bind_ret]
  iintro ⟨Hp, Hr, %Y, Ho⟩ Hk
  iapply (slot_load ptM (R16 0) (fun _ => rfl) squeezes_S1x2x128x512_S2x128x512 shapeCasts_S2x128x512_S1x2x128x512 c) $$ Hp; iintro Hp
  iapply (slot_load rrM (R15 14) (fun _ => rfl) squeezes_S1x2x128x512_S2x128x512 shapeCasts_S2x128x512_S1x2x128x512 c) $$ Hr; iintro Hr
  iapply (full_load outM hz3 _ c) $$ Ho; iintro Ho
  have e : addf (shapeCast S2x128x512 (shapeCast (R16 0).shape (partAt m ρ c 0) shapeCasts_S2x128x512_S1x2x128x512) shapeCasts_S1x2x128x512_S2x128x512)
      (extf .f32 (shapeCast S2x128x512 (shapeCast (R15 14).shape (runSum m ρ 14 (prv c)) shapeCasts_S2x128x512_S1x2x128x512) shapeCasts_S1x2x128x512_S2x128x512) bitsLt_bf16_f32)
      = outAt m ρ c :=
    congrArg₂ (fun (x : FVec F S2x128x512 .f32) (y : FVec F S2x128x512 .bf16) => addf x (extf .f32 y bitsLt_bf16_f32)) (cast16 0 (partAt m ρ c 0)) (cast15 14 (runSum m ρ 14 (prv c)))
  rw [e]
  iapply (full_store outM hz3 _ c) $$ Ho; iintro Ho
  iapply (ret_rule c)
  iapply Hk
  isplitl [Hp]; · iexact Hp
  isplitl [Hr] <;> iassumption

end Steps

end Cert.KernelIdeal.Ring
end
-- ==== Proof.Hops.lean ====
/-
  The body as a whole. A middle hop uses up one member of a family of rights (`Ahead`) and leaves one of a family of
  results (`Behind`); the hops and the drain are inductions over those families, and the body is the straight line of
  rules around them.
-/
module

public import proofs.«01_k».proof.Proof.StepRules

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## Families over the places, split at their ends -/

theorem split_first {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp), bigSep_map]; rfl
theorem split_last {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]; rfl

/-- Fifteen places as the first two and the rest, as the first, the last and those between, as the last two and the rest. -/
theorem split_up (Φ : Fin 15 → sProp 𝕄) : bigSep Finset.univ Φ = iprop(Φ 0 ∗ Φ 1 ∗ bigSep Finset.univ fun i : Fin 13 => Φ i.succ.succ) := by
  rw [split_first, split_first]; rfl
theorem split_mid (Φ : Fin 15 → sProp 𝕄) : bigSep Finset.univ Φ = iprop(Φ 14 ∗ Φ 0 ∗ bigSep Finset.univ fun i : Fin 13 => Φ i.succ.castSucc) := by
  rw [split_last, split_first]; rfl
theorem split_low (Φ : Fin 15 → sProp 𝕄) : bigSep Finset.univ Φ = iprop(Φ 14 ∗ Φ 13 ∗ bigSep Finset.univ fun i : Fin 13 => Φ i.castSucc.castSucc) := by
  rw [split_last, split_last]; rfl
/-- Sixteen slots as the first two, the last and those between. -/
theorem split_slots (Φ : Fin 16 → sProp 𝕄) :
    bigSep Finset.univ Φ = iprop(Φ 15 ∗ Φ 0 ∗ Φ 1 ∗ bigSep Finset.univ fun i : Fin 13 => Φ i.succ.succ.castSucc) := by
  rw [split_last, split_first, split_first]; rfl
/-- The places from `n` on as place `n` and those after it. -/
theorem split_from {k n : ℕ} (hn : n < k) (Φ : Fin k → sProp 𝕄) : bigSep (from' n) Φ = iprop(Φ ⟨n, hn⟩ ∗ bigSep (from' (n + 1)) Φ) := by
  rw [from_succ hn, bigSep_insert (from_not_mem hn)]; rfl

/-! ## A middle hop -/

section Body
variable (c : Dev nD)

/-- The right to pass on activation slot `h`, with the slot it lands in; the same for running sum `t`. -/
def agF (h : Fin 15) : sProp 𝕄 := iprop(tok c 0 1 h ∗ ∃ Y, xg (nxt c) h.succ fullShare Y)
def rsF (t : Fin 15) : sProp 𝕄 := iprop(tok c 2 3 t ∗ (∃ Y, rr (nxt c) t Y) ∗ ∃ Y, rs c t Y)
/-- After passing on slot `h`: half of it, and the wait for the departure. -/
def agH (h : Fin 15) : sProp 𝕄 := iprop(xg c h.castSucc fullShare.left (slotX m ρ c h.val) ∗ due c 0 h)
/-- Some contents of a partial result, and of a received sum with its closed cell. -/
def ptE (r : Fin 16) : sProp 𝕄 := iprop(∃ Y, pt c r Y)
def rrE (t : Fin 15) : sProp 𝕄 := iprop(semVal (xc c 3 t) 0 ∗ ∃ Y, rr c t Y)

def Ahead (i : Fin 13) : sProp 𝕄 :=
  iprop(agF c i.succ.succ ∗ due c 1 i.succ.castSucc ∗ rsF c i.succ.castSucc ∗ due c 3 i.castSucc.castSucc ∗ ptE c i.succ.succ.castSucc)
def Behind (i : Fin 13) : sProp 𝕄 :=
  iprop(agH m ρ c i.succ.succ ∗ semVal (xc c 1 i.succ.castSucc) 0 ∗ due c 2 i.succ.castSucc ∗ rrE c i.castSucc.castSucc ∗ ptE c i.succ.succ.castSucc)

theorem hop_rule (i : Fin 13) {Q : PUnit → sProp 𝕄} :
    iprop(ctx m ρ K ∗ weights m ρ c ∗ Ahead c i ∗ owesX c (owedXfer c (i.val + 2) (i.val + 1)))
      ⊢ iprop(((weights m ρ c ∗ Behind m ρ c i ∗ owesX c (owedXfer c (i.val + 3) (i.val + 2))) -∗ Q ⟨⟩)
        -∗ WP c (hop (fun _ => nxt c) (fun _ => nxt c) i) Q) := by
  unfold hop Ahead Behind agF rsF agH ptE rrE
  simp only [seq]
  iintro ⟨#Hctx, Hw, ⟨⟨Ht, HY⟩, Hd1, ⟨Ht2, HYr, HYs⟩, Hd3, Hp⟩, HO⟩ Hk
  iapply (agWait_rule m ρ K c i.succ.castSucc (i.val + 2) (i.val + 1) (by show 2 * (i.val + 1) + 2 < _; omega) (by show 2 * (i.val + 1) + 2 < _; omega)) $$ [Hd1 HO]
  · isplitr; · iexact Hctx
    isplitl [Hd1]; · iexact Hd1
    iexact HO
  iintro ⟨Hx, Hz1, HO⟩
  iapply (agStart_rule m ρ K c i.succ.succ (i.val + 1)) $$ [Ht HY Hx HO]
  · isplitr; · iexact Hctx
    isplitl [Ht]; · iexact Ht
    isplitl [Hx]; · iexact Hx
    isplitl [HY]; · iexact HY
    iexact HO
  iintro ⟨Hx, Hd0, HO⟩
  iapply (slotStep_rule m ρ c i.succ.succ.castSucc) $$ [Hx Hw Hp]
  · isplitl [Hx]; · iexact Hx
    isplitl [Hw]; · iexact Hw
    iexact Hp
  iintro ⟨Hx, Hw, Hp⟩
  iapply (rsWait_rule m ρ K c i.castSucc.castSucc (i.val + 3) (i.val + 1) (by show 2 * i.val + 5 < _; omega) (by show 2 * i.val + 5 < _; omega)) $$ [Hd3 HO]
  · isplitr; · iexact Hctx
    isplitl [Hd3]; · iexact Hd3
    iexact HO
  iintro ⟨Hr, Hz3, HO⟩
  iapply (sumStep_rule m ρ c i.castSucc) $$ [Hp Hr HYs]
  · isplitl [Hp]; · iexact Hp
    isplitl [Hr]; · iexact Hr
    iexact HYs
  iintro ⟨Hp, Hr, Hs⟩
  iapply (rsStart_rule m ρ K c i.succ.castSucc (i.val + 3)) $$ [Ht2 HYr Hs HO]
  · isplitr; · iexact Hctx
    isplitl [Ht2]; · iexact Ht2
    isplitl [Hs]; · iexact Hs
    isplitl [HYr]; · iexact HYr
    iexact HO
  iintro ⟨Hd2, HO⟩
  iapply Hk
  isplitl [Hw]; · iexact Hw
  isplitr [HO]
  · isplitl [Hx Hd0]
    · isplitl [Hx]; · iexact Hx
      iexact Hd0
    isplitl [Hz1]; · iexact Hz1
    isplitl [Hd2]; · iexact Hd2
    isplitl [Hr Hz3]
    · isplitl [Hz3]; · iexact Hz3
      iexists _; iexact Hr
    iexists _; iexact Hp
  iexact HO

/-- The middle hops from `n` on. -/
theorem hops_rule (k : ℕ) : ∀ (n : ℕ) (h : n + k ≤ 13) (e : n + k = 13) {Q : PUnit → sProp 𝕄},
    iprop(ctx m ρ K ∗ weights m ρ c ∗ bigSep (from' n) (Ahead c) ∗ owesX c (owedXfer c (n + 2) (n + 1)))
      ⊢ iprop(((weights m ρ c ∗ bigSep (from' n) (Behind m ρ c) ∗ owesX c (owedXfer c 15 14)) -∗ Q ⟨⟩)
        -∗ WP c (hops (fun _ => nxt c) (fun _ => nxt c) n k h) Q) := by
  induction k with
  | zero =>
    intro n h e Q
    obtain rfl : n = 13 := e
    unfold hops
    rw [from_past le_rfl, bigSep_empty, bigSep_empty]
    iintro ⟨-, Hw, He, HO⟩ Hk
    iapply (ret_rule c)
    iapply Hk
    isplitl [Hw]; · iexact Hw
    isplitl [He] <;> iassumption
  | succ k ih =>
    intro n h e Q
    have hn : n < 13 := by omega
    unfold hops
    rw [seq, split_from hn, split_from hn]
    iintro ⟨#Hctx, Hw, ⟨Ha, Hrest⟩, HO⟩ Hk
    iapply (hop_rule m ρ K c ⟨n, hn⟩) $$ [Hw Ha HO]
    · isplitr; · iexact Hctx
      isplitl [Hw]; · iexact Hw
      isplitl [Ha] <;> iassumption
    iintro ⟨Hw, Hb, HO⟩
    iapply (ih (n + 1) _ (by omega)) $$ [Hw Hrest HO]
    · isplitr; · iexact Hctx
      isplitl [Hw]; · iexact Hw
      isplitl [Hrest] <;> iassumption
    iintro ⟨Hw, Hbs, HO⟩
    iapply Hk
    isplitl [Hw]; · iexact Hw
    isplitl [Hb Hbs]
    · isplitl [Hb] <;> iassumption
    iexact HO

/-! ## The drain -/

def Sent (h : Fin 15) : sProp 𝕄 := iprop(agH m ρ c h ∗ due c 2 h)
def Home (h : Fin 15) : sProp 𝕄 :=
  iprop((semVal (xc c 0 h) 0 ∗ ∃ Y, xg c h.castSucc fullShare Y) ∗ semVal (xc c 2 h) 0 ∗ ∃ Y, rs c h Y)

/-- Waiting for the departures from `n` on. -/
theorem drain_rule (k : ℕ) : ∀ (n : ℕ) (h : n + k ≤ 15) (e : n + k = 15) {Q : PUnit → sProp 𝕄},
    iprop(ctx m ρ K ∗ bigSep (from' n) (Sent m ρ c) ∗ owesX c (owedXfer c 15 15))
      ⊢ iprop(((bigSep (from' n) (Home c) ∗ owesX c (owedXfer c 15 15)) -∗ Q ⟨⟩) -∗ WP c (drain n k h) Q) := by
  induction k with
  | zero =>
    intro n h e Q
    obtain rfl : n = 15 := e
    unfold drain
    rw [from_past le_rfl, bigSep_empty, bigSep_empty]
    iintro ⟨-, He, HO⟩ Hk
    iapply (ret_rule c)
    iapply Hk
    isplitl [He] <;> iassumption
  | succ k ih =>
    intro n h e Q
    have hn : n < 15 := by omega
    unfold drain
    simp only [seq]
    rw [split_from hn, split_from hn]
    unfold Sent Home agH
    iintro ⟨#Hctx, ⟨⟨⟨Hx, Hd0⟩, Hd2⟩, Hrest⟩, HO⟩ Hk
    iapply (agDone_rule m ρ K c ⟨n, hn⟩ 15 15) $$ [Hd0 HO]
    · isplitr; · iexact Hctx
      isplitl [Hd0] <;> iassumption
    iintro ⟨Hx2, Hz0, HO⟩
    iapply (rsDone_rule m ρ K c ⟨n, hn⟩ 15 15) $$ [Hd2 HO]
    · isplitr; · iexact Hctx
      isplitl [Hd2] <;> iassumption
    iintro ⟨Hs, Hz2, HO⟩
    ihave Hxx := (owns_halves (c : Thread nD τ) (xgS (⟨n, hn⟩ : Fin 15).castSucc) fullShare (slotX m ρ c n)).2 $$ [Hx Hx2]
    · isplitl [Hx]; · iexact Hx
      iexact Hx2
    iapply (ih (n + 1) _ (by omega)) $$ [Hrest HO]
    · isplitr; · iexact Hctx
      isplitl [Hrest]; · iexact Hrest
      iexact HO
    iintro ⟨Hbs, HO⟩
    iapply Hk
    isplitr [HO]
    · isplitr [Hbs]
      · isplitl [Hxx Hz0]
        · isplitl [Hz0]; · iexact Hz0
          iexists _; iexact Hxx
        isplitl [Hz2]; · iexact Hz2
        iexists _; iexact Hs
      iexact Hbs
    iexact HO

end Body

end Cert.KernelIdeal.Ring
end
-- ==== Proof.Body.lean ====
/-
  The body from its rights and buffers to its result: the barrier, the local copies, the first and second hop, the middle
  hops, the last hop, the drain.
-/
module

public import proofs.«01_k».proof.Proof.Hops

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

section Body
variable (c : Dev nD)

/-! ## What a device starts from and ends with -/

/-- Some contents of an activation slot, of a sum to send, of a sum received, of a local weight buffer. -/
def xgE (r : Fin 16) : sProp 𝕄 := iprop(∃ Y, xg c r fullShare Y)
def rsE (t : Fin 15) : sProp 𝕄 := iprop(∃ Y, rs c t Y)
def rrY (t : Fin 15) : sProp 𝕄 := iprop(∃ Y, rr c t Y)
def wE (b : Memref sig .tc .vmem S512x512 .bf16) : sProp 𝕄 := iprop(∃ Y, owns (c : Thread nD τ) b fullShare Y)

/-- The buffers of a device, slot by slot, with any contents. -/
def bufs : sProp 𝕄 :=
  iprop(bigSep Finset.univ (xgE c) ∗ bigSep Finset.univ (ptE c) ∗ bigSep Finset.univ (rsE c) ∗ bigSep Finset.univ (rrY c)
    ∗ wE c wqM ∗ wE c wkM ∗ wE c wvM ∗ wE c woM)

/-- The rights a device starts with: the two barrier duties it pays, its barrier's credit and place, the rights to start
    its thirty transfers and to wait for the thirty that reach it. -/
def Ready : sProp 𝕄 :=
  iprop(dutyTok ER (barCell (prv c)) 0 true ∗ dutyTok ER (barCell (nxt c)) 0 false ∗ cred (tallyAt (barCell c) () 2) ∗ atPos ER (barCell c) 0 ∅ 0
    ∗ bigSep Finset.univ (fun h => tok (F := F) c 0 1 h) ∗ bigSep Finset.univ (fun h => tok (F := F) c 2 3 h)
    ∗ bigSep Finset.univ (fun h => due (F := F) c 1 h) ∗ bigSep Finset.univ (fun h => due (F := F) c 3 h))

/-- All its cells, closed. -/
abbrev zero (a : Fin 4) (h : Fin 15) : sProp 𝕄 := semVal (xc c a h) 0
def Done : sProp 𝕄 :=
  iprop(semVal (barCell c) 0 ∗ bigSep Finset.univ (zero c 0) ∗ bigSep Finset.univ (zero c 1) ∗ bigSep Finset.univ (zero c 2) ∗ bigSep Finset.univ (zero c 3))

/-- The staged operands. -/
def staged : sProp 𝕄 :=
  iprop(owns (c : Thread nD τ) xM fullShare (xAt m ρ c) ∗ owns (c : Thread nD τ) (Memref.whole cc0_stg1_0) fullShare (wqAt m ρ c)
    ∗ owns (c : Thread nD τ) (Memref.whole cc0_stg2_0) fullShare (wkAt m ρ c) ∗ owns (c : Thread nD τ) (Memref.whole cc0_stg3_0) fullShare (wvAt m ρ c)
    ∗ owns (c : Thread nD τ) (Memref.whole cc0_stg4_0) fullShare (woAt m ρ c))

/-- Each of these from given contents. -/
theorem ptE_intro (r : Fin 16) (Y : FVec F S2x128x512 .f32) : pt c r Y ⊢ ptE (F := F) c r := by unfold ptE; iintro H; iexists Y; iexact H
theorem ptE_elim (r : Fin 16) : ptE (F := F) c r ⊢ iprop(∃ Y, pt c r Y) := BI.Entails.refl _
theorem xgE_intro (r : Fin 16) (Y : FVec F S2x128x512 .bf16) : xg c r fullShare Y ⊢ xgE (F := F) c r := by unfold xgE; iintro H; iexists Y; iexact H
theorem xgE_elim (r : Fin 16) : xgE (F := F) c r ⊢ iprop(∃ Y, xg c r fullShare Y) := BI.Entails.refl _

/-! ## The families put together and taken apart -/

theorem landing_eq (d : Dev nD) : bigSep Finset.univ (landing (F := F) d)
    = iprop(bigSep Finset.univ (fun h : Fin 15 => xgE (F := F) d h.succ) ∗ bigSep Finset.univ (rrY (F := F) d)) := by
  rw [← bigSep_sep']; rfl
theorem agF_eq : bigSep Finset.univ (agF (F := F) c)
    = iprop(bigSep Finset.univ (fun h => tok (F := F) c 0 1 h) ∗ bigSep Finset.univ (fun h : Fin 15 => xgE (F := F) (nxt c) h.succ)) := by
  rw [← bigSep_sep']; rfl
theorem rsF_eq : bigSep Finset.univ (rsF (F := F) c)
    = iprop(bigSep Finset.univ (fun h => tok (F := F) c 2 3 h) ∗ bigSep Finset.univ (rrY (F := F) (nxt c)) ∗ bigSep Finset.univ (rsE (F := F) c)) := by
  rw [← bigSep_sep', ← bigSep_sep']; rfl
theorem rrE_eq : bigSep Finset.univ (rrE (F := F) c) = iprop(bigSep Finset.univ (zero (F := F) c 3) ∗ bigSep Finset.univ (rrY (F := F) c)) := by
  rw [← bigSep_sep']; rfl
theorem Sent_eq : bigSep Finset.univ (Sent m ρ c) = iprop(bigSep Finset.univ (agH m ρ c) ∗ bigSep Finset.univ (fun h => due (F := F) c 2 h)) := by
  rw [← bigSep_sep']; rfl
theorem Home_eq : bigSep Finset.univ (Home (F := F) c)
    = iprop((bigSep Finset.univ (zero (F := F) c 0) ∗ bigSep Finset.univ (fun h : Fin 15 => xgE (F := F) c h.castSucc))
      ∗ bigSep Finset.univ (zero (F := F) c 2) ∗ bigSep Finset.univ (rsE (F := F) c)) := by
  rw [← bigSep_sep', ← bigSep_sep', ← bigSep_sep']; rfl
theorem Ahead_eq : bigSep Finset.univ (Ahead (F := F) c)
    = iprop(bigSep Finset.univ (fun i : Fin 13 => agF (F := F) c i.succ.succ) ∗ bigSep Finset.univ (fun i : Fin 13 => due (F := F) c 1 i.succ.castSucc)
      ∗ bigSep Finset.univ (fun i : Fin 13 => rsF (F := F) c i.succ.castSucc) ∗ bigSep Finset.univ (fun i : Fin 13 => due (F := F) c 3 i.castSucc.castSucc)
      ∗ bigSep Finset.univ (fun i : Fin 13 => ptE (F := F) c i.succ.succ.castSucc)) := by
  rw [← bigSep_sep', ← bigSep_sep', ← bigSep_sep', ← bigSep_sep']; rfl
theorem Behind_eq : bigSep Finset.univ (Behind m ρ c)
    = iprop(bigSep Finset.univ (fun i : Fin 13 => agH m ρ c i.succ.succ) ∗ bigSep Finset.univ (fun i : Fin 13 => zero (F := F) c 1 i.succ.castSucc)
      ∗ bigSep Finset.univ (fun i : Fin 13 => due (F := F) c 2 i.succ.castSucc) ∗ bigSep Finset.univ (fun i : Fin 13 => rrE (F := F) c i.castSucc.castSucc)
      ∗ bigSep Finset.univ (fun i : Fin 13 => ptE (F := F) c i.succ.succ.castSucc)) := by
  rw [← bigSep_sep', ← bigSep_sep', ← bigSep_sep', ← bigSep_sep']; rfl

set_option maxHeartbeats 1600000 in
/-- The body. -/
theorem body_rule {Q : PUnit → sProp 𝕄} :
    iprop(ctx m ρ K ∗ Ready c ∗ bufs c ∗ staged m ρ c ∗ (∃ Y, owns (c : Thread nD τ) outM fullShare Y) ∗ owesX c (O₀ c))
      ⊢ iprop(((Done c ∗ bufs c ∗ staged m ρ c ∗ owns (c : Thread nD τ) outM fullShare (outAt m ρ c) ∗ owesX c 0) -∗ Q ⟨⟩)
        -∗ WP c (bodyAt (prv c) (nxt c) (fun _ => nxt c) (fun _ => nxt c)) Q) := by
  unfold bodyAt
  simp only [seq]
  unfold Ready bufs staged
  iintro ⟨#Hctx, ⟨HtP, HtN, Hcb, Hab, Htag, Htrs, Hd1, Hd3⟩, ⟨Hx, Hpt, Hrs, Hrr, Hwq, Hwk, Hwv, Hwo⟩, ⟨Hsx, Hsq, Hsk, Hsv, Hso⟩, Hout, HO⟩ Hk
  ihave Hx := (Entails.of_eq (split_first (xgE (F := F) c))) $$ Hx
  icases Hx with ⟨Hx0, Hxs⟩
  iapply (barrier_rule m ρ K c) $$ [HtP HtN Hcb Hab Hxs Hrr HO]
  · isplitr; · iexact Hctx
    isplitl [HtP]; · iexact HtP
    isplitl [HtN]; · iexact HtN
    isplitl [Hxs Hrr]
    · rw [landing_eq]; isplitl [Hxs] <;> iassumption
    isplitl [Hcb]; · iexact Hcb
    isplitl [Hab] <;> iassumption
  iintro ⟨Hland, Hzb, HO⟩
  ihave Hland := (Entails.of_eq (landing_eq (F := F) (nxt c))) $$ Hland
  icases Hland with ⟨Hxn, Hrn⟩
  ihave Hag := (Entails.of_eq (agF_eq (F := F) c).symm) $$ [Htag Hxn]
  · isplitl [Htag] <;> iassumption
  ihave Hrs := (Entails.of_eq (rsF_eq (F := F) c).symm) $$ [Htrs Hrn Hrs]
  · isplitl [Htrs]; · iexact Htrs
    isplitl [Hrn] <;> iassumption
  ihave Hag := (Entails.of_eq (split_up (agF (F := F) c))) $$ Hag
  ihave Hrs := (Entails.of_eq (split_mid (rsF (F := F) c))) $$ Hrs
  ihave Hd1 := (Entails.of_eq (split_mid (fun h => due (F := F) c 1 h))) $$ Hd1
  ihave Hd3 := (Entails.of_eq (split_low (fun h => due (F := F) c 3 h))) $$ Hd3
  ihave Hpt := (Entails.of_eq (split_slots (ptE (F := F) c))) $$ Hpt
  icases Hag with ⟨Hag0, Hag1, Hag⟩
  icases Hrs with ⟨Hrs14, Hrs0, Hrs⟩
  icases Hd1 with ⟨Hd1_14, Hd1_0, Hd1⟩
  icases Hd3 with ⟨Hd3_14, Hd3_13, Hd3⟩
  icases Hpt with ⟨Hpt15, Hpt0, Hpt1, Hpt⟩
  ihave Hx0 := (xgE_elim (F := F) c 0) $$ Hx0
  ihave Hpt0 := (ptE_elim (F := F) c 0) $$ Hpt0
  ihave Hpt1 := (ptE_elim (F := F) c 1) $$ Hpt1
  ihave Hpt15 := (ptE_elim (F := F) c 15) $$ Hpt15
  -- the local copies
  unfold wE
  iapply (copyW_rule c (Memref.whole cc0_stg1_0) wqM (Memref.isWhole_whole _) (wqAt m ρ c)) $$ [Hsq Hwq]
  · isplitl [Hsq]; · iexact Hsq
    iexact Hwq
  iintro ⟨Hsq, Hwq⟩
  iapply (copyW_rule c (Memref.whole cc0_stg2_0) wkM (Memref.isWhole_whole _) (wkAt m ρ c)) $$ [Hsk Hwk]
  · isplitl [Hsk]; · iexact Hsk
    iexact Hwk
  iintro ⟨Hsk, Hwk⟩
  iapply (copyW_rule c (Memref.whole cc0_stg3_0) wvM (Memref.isWhole_whole _) (wvAt m ρ c)) $$ [Hsv Hwv]
  · isplitl [Hsv]; · iexact Hsv
    iexact Hwv
  iintro ⟨Hsv, Hwv⟩
  iapply (copyW_rule c (Memref.whole cc0_stg4_0) woM (Memref.isWhole_whole _) (woAt m ρ c)) $$ [Hso Hwo]
  · isplitl [Hso]; · iexact Hso
    iexact Hwo
  iintro ⟨Hso, Hwo⟩
  iapply (copyX_rule c (xAt m ρ c)) $$ [Hsx Hx0]
  · isplitl [Hsx]; · iexact Hsx
    iexact Hx0
  iintro ⟨Hsx, Hx0⟩
  ihave Hw : weights m ρ c $$ [Hwq Hwk Hwv Hwo]
  · unfold weights
    isplitl [Hwq]; · iexact Hwq
    isplitl [Hwk]; · iexact Hwk
    isplitl [Hwv] <;> iassumption
  -- the first slot, its own
  unfold agF rsF
  icases Hag0 with ⟨Ht, HY⟩
  iapply (agStart_rule m ρ K c 0 0) $$ [Ht HY Hx0 HO]
  · isplitr; · iexact Hctx
    isplitl [Ht]; · iexact Ht
    isplitl [Hx0]; · iexact Hx0
    isplitl [HY]; · iexact HY
    iexact HO
  iintro ⟨Hx0, Hd0_0, HO⟩
  iapply (slotStep_rule m ρ c 0) $$ [Hx0 Hw Hpt0]
  · isplitl [Hx0]; · iexact Hx0
    isplitl [Hw]; · iexact Hw
    iexact Hpt0
  iintro ⟨Hx0, Hw, Hpt0⟩
  -- the second slot
  iapply (agWait_rule m ρ K c 0 1 0 (by decide) (by decide)) $$ [Hd1_0 HO]
  · isplitr; · iexact Hctx
    isplitl [Hd1_0]; · iexact Hd1_0
    iexact HO
  iintro ⟨Hx1, Hz1_0, HO⟩
  icases Hag1 with ⟨Ht, HY⟩
  iapply (agStart_rule m ρ K c 1 0) $$ [Ht HY Hx1 HO]
  · isplitr; · iexact Hctx
    isplitl [Ht]; · iexact Ht
    isplitl [Hx1]; · iexact Hx1
    isplitl [HY]; · iexact HY
    iexact HO
  iintro ⟨Hx1, Hd0_1, HO⟩
  iapply (slotStep_rule m ρ c 1) $$ [Hx1 Hw Hpt1]
  · isplitl [Hx1]; · iexact Hx1
    isplitl [Hw]; · iexact Hw
    iexact Hpt1
  iintro ⟨Hx1, Hw, Hpt1⟩
  icases Hrs0 with ⟨Ht, HYr, HYs⟩
  iapply (sumFirst_rule m ρ c) $$ [Hpt1 HYs]
  · isplitl [Hpt1]; · iexact Hpt1
    iexact HYs
  iintro ⟨Hpt1, Hs⟩
  iapply (rsStart_rule m ρ K c 0 2) $$ [Ht HYr Hs HO]
  · isplitr; · iexact Hctx
    isplitl [Ht]; · iexact Ht
    isplitl [Hs]; · iexact Hs
    isplitl [HYr]; · iexact HYr
    iexact HO
  iintro ⟨Hd2_0, HO⟩
  -- the middle hops
  iapply (hops_rule m ρ K c 13 0 _ (by decide)) $$ [Hw Hag Hd1 Hrs Hd3 Hpt HO]
  · isplitr; · iexact Hctx
    isplitl [Hw]; · iexact Hw
    isplitr [HO]
    · rw [from_zero, Ahead_eq]
      isplitl [Hag]; · iexact Hag
      isplitl [Hd1]; · iexact Hd1
      isplitl [Hrs]; · iexact Hrs
      isplitl [Hd3]; · iexact Hd3
      iexact Hpt
    iexact HO
  rw [from_zero, Behind_eq]
  iintro ⟨Hw, ⟨Hag, Hz1, Hd2, Hrr, Hpt⟩, HO⟩
  -- the last slot and the last sums
  iapply (agWait_rule m ρ K c 14 15 14 (by decide) (by decide)) $$ [Hd1_14 HO]
  · isplitr; · iexact Hctx
    isplitl [Hd1_14]; · iexact Hd1_14
    iexact HO
  iintro ⟨Hx15, Hz1_14, HO⟩
  iapply (slotStep_rule m ρ c 15) $$ [Hx15 Hw Hpt15]
  · isplitl [Hx15]; · iexact Hx15
    isplitl [Hw]; · iexact Hw
    iexact Hpt15
  iintro ⟨Hx15, Hw, Hpt15⟩
  iapply (rsWait_rule m ρ K c 13 15 14 (by decide) (by decide)) $$ [Hd3_13 HO]
  · isplitr; · iexact Hctx
    isplitl [Hd3_13]; · iexact Hd3_13
    iexact HO
  iintro ⟨Hrr13, Hz3_13, HO⟩
  icases Hrs14 with ⟨Ht, HYr, HYs⟩
  iapply (sumStep_rule m ρ c 13) $$ [Hpt15 Hrr13 HYs]
  · isplitl [Hpt15]; · iexact Hpt15
    isplitl [Hrr13]; · iexact Hrr13
    iexact HYs
  iintro ⟨Hpt15, Hrr13, Hs⟩
  iapply (rsStart_rule m ρ K c 14 15) $$ [Ht HYr Hs HO]
  · isplitr; · iexact Hctx
    isplitl [Ht]; · iexact Ht
    isplitl [Hs]; · iexact Hs
    isplitl [HYr]; · iexact HYr
    iexact HO
  iintro ⟨Hd2_14, HO⟩
  ihave HO := (Entails.of_eq (congrArg (owesX c) ((owedXfer_none c 15 ((14 : Fin 15).val + 1) le_rfl (by decide)).trans (owedXfer_none c 20 20 (by decide) (by decide)).symm))) $$ HO
  iapply (rsWait_rule m ρ K c 14 20 20 (by decide) (by decide)) $$ [Hd3_14 HO]
  · isplitr; · iexact Hctx
    isplitl [Hd3_14]; · iexact Hd3_14
    iexact HO
  iintro ⟨Hrr14, Hz3_14, HO⟩
  iapply (sumLast_rule m ρ c) $$ [Hpt0 Hrr14 Hout]
  · isplitl [Hpt0]; · iexact Hpt0
    isplitl [Hrr14]; · iexact Hrr14
    iexact Hout
  iintro ⟨Hpt0, Hrr14, Hout⟩
  ihave HO := (Entails.of_eq (congrArg (owesX c) ((owedXfer_none c 20 20 (by decide) (by decide)).trans (owedXfer_none c 15 15 le_rfl le_rfl).symm))) $$ HO
  -- the drain
  iapply (drain_rule m ρ K c 15 0 _ (by decide)) $$ [Hag Hx0 Hd0_0 Hx1 Hd0_1 Hd2 Hd2_0 Hd2_14 HO]
  · isplitr; · iexact Hctx
    isplitr [HO]
    · rw [from_zero, Sent_eq, split_up, split_mid]
      isplitr [Hd2 Hd2_0 Hd2_14]
      · isplitl [Hx0 Hd0_0]
        · unfold agH
          isplitl [Hx0]; · iexact Hx0
          iexact Hd0_0
        isplitl [Hx1 Hd0_1]
        · unfold agH
          isplitl [Hx1]; · iexact Hx1
          iexact Hd0_1
        iexact Hag
      isplitl [Hd2_14]; · iexact Hd2_14
      isplitl [Hd2_0] <;> iassumption
    iexact HO
  rw [from_zero, Home_eq, owedXfer_none c 15 15 le_rfl le_rfl]
  iintro ⟨⟨⟨Hz0, Hxs⟩, Hz2, Hrs⟩, HO⟩
  iapply Hk
  ihave Hrr : bigSep Finset.univ (rrE (F := F) c) $$ [Hrr Hrr13 Hrr14 Hz3_13 Hz3_14]
  · rw [split_low]
    unfold rrE
    isplitl [Hrr14 Hz3_14]
    · isplitl [Hz3_14]; · iexact Hz3_14
      iexists _; iexact Hrr14
    isplitl [Hrr13 Hz3_13]
    · isplitl [Hz3_13]; · iexact Hz3_13
      iexists _; iexact Hrr13
    iexact Hrr
  ihave Hrr := (Entails.of_eq (rrE_eq (F := F) c)) $$ Hrr
  icases Hrr with ⟨Hz3, Hrr⟩
  ihave Hz1 : bigSep Finset.univ (zero (F := F) c 1) $$ [Hz1 Hz1_0 Hz1_14]
  · rw [split_mid]
    isplitl [Hz1_14]; · iexact Hz1_14
    isplitl [Hz1_0]; · iexact Hz1_0
    iexact Hz1
  unfold weights
  icases Hw with ⟨Hwq, Hwk, Hwv, Hwo⟩
  isplitl [Hzb Hz0 Hz1 Hz2 Hz3]
  · unfold Done
    isplitl [Hzb]; · iexact Hzb
    isplitl [Hz0]; · iexact Hz0
    isplitl [Hz1]; · iexact Hz1
    isplitl [Hz2] <;> iassumption
  isplitl [Hxs Hx15 Hpt Hpt0 Hpt1 Hpt15 Hrs Hrr Hwq Hwk Hwv Hwo]
  · isplitl [Hxs Hx15]
    · iapply (Entails.of_eq (split_last (xgE (F := F) c)).symm)
      isplitl [Hx15]
      · iapply (xgE_intro c (Fin.last 15)); iexact Hx15
      iexact Hxs
    isplitl [Hpt Hpt0 Hpt1 Hpt15]
    · iapply (Entails.of_eq (split_slots (ptE (F := F) c)).symm)
      isplitl [Hpt15]; · iapply (ptE_intro c 15); iexact Hpt15
      isplitl [Hpt0]; · iapply (ptE_intro c 0); iexact Hpt0
      isplitl [Hpt1]; · iapply (ptE_intro c 1); iexact Hpt1
      iexact Hpt
    isplitl [Hrs]; · iexact Hrs
    isplitl [Hrr]; · iexact Hrr
    isplitl [Hwq]; · iexists _; iexact Hwq
    isplitl [Hwk]; · iexists _; iexact Hwk
    isplitl [Hwv]; · iexists _; iexact Hwv
    iexists _; iexact Hwo
  isplitl [Hsx Hsq Hsk Hsv Hso]
  · isplitl [Hsx]; · iexact Hsx
    isplitl [Hsq]; · iexact Hsq
    isplitl [Hsk]; · iexact Hsk
    isplitl [Hsv] <;> iassumption
  isplitl [Hout]; · iexact Hout
  iexact HO

end Body

end Cert.KernelIdeal.Ring
end
-- ==== Proof.Slots.lean ====
/-
  The scratch buffers cut into the slots the body works on, and put together again.
-/
module

public import proofs.«01_k».proof.Proof.Body
public import proofs.«01_k».proof.Proof.Gen.KernelIdeal.Launch
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The slots' places -/

theorem disj16 (r r' : Fin 16) (h : r ≠ r') : Disjoint (R16 r).set (R16 r').set :=
  Idealize.ShloMosaic.Ring.lead_disjoint (s := S16x2x128x512) (0 : Fin 4) 1 (fun r : Fin 16 => (![r.val, 0, 0, 0] : Fin 4 → ℕ)) S1x2x128x512.size inb16
    (fun r => by simp) rfl r r' h
theorem cover16 : Finset.univ.biUnion (fun r : Fin 16 => (R16 r).set) = Finset.univ :=
  Idealize.ShloMosaic.Ring.lead_cover (s := S16x2x128x512) (0 : Fin 4) 1 (fun r : Fin 16 => (![r.val, 0, 0, 0] : Fin 4 → ℕ)) S1x2x128x512.size inb16
    (fun r => by simp) (fun r a ha => by fin_cases a <;> first | exact absurd rfl ha | rfl) rfl (fun a ha => by fin_cases a <;> first | exact absurd rfl ha | rfl) rfl
theorem disj15 (r r' : Fin 15) (h : r ≠ r') : Disjoint (R15 r).set (R15 r').set :=
  Idealize.ShloMosaic.Ring.lead_disjoint (s := S15x2x128x512) (0 : Fin 4) 1 (fun r : Fin 15 => (![r.val, 0, 0, 0] : Fin 4 → ℕ)) S1x2x128x512.size inb15
    (fun r => by simp) rfl r r' h
theorem cover15 : Finset.univ.biUnion (fun r : Fin 15 => (R15 r).set) = Finset.univ :=
  Idealize.ShloMosaic.Ring.lead_cover (s := S15x2x128x512) (0 : Fin 4) 1 (fun r : Fin 15 => (![r.val, 0, 0, 0] : Fin 4 → ℕ)) S1x2x128x512.size inb15
    (fun r => by simp) (fun r a ha => by fin_cases a <;> first | exact absurd rfl ha | rfl) rfl (fun a ha => by fin_cases a <;> first | exact absurd rfl ha | rfl) rfl

section Cut
variable (c : Dev nD)

/-- A scratch buffer, whole, with some contents. -/
abbrev some' (b : Ref sig .tc) : sProp 𝕄 := iprop(∃ f : Buf (Elt F) ((c : Thread nD τ).loc b), ((c : Thread nD τ).loc b) ↦{fullShare} f)
/-- The elements `S` of a scratch buffer, with some contents. -/
abbrev part (b : Ref sig .tc) (S : Finset (Idx ((c : Thread nD τ).loc b))) : sProp 𝕄 :=
  iprop(∃ f : Buf (Elt F) ((c : Thread nD τ).loc b), ((c : Thread nD τ).loc b) ↦[S]{fullShare} f)

/-- A slot is its elements of the buffer. -/
theorem owns_part {s : Shape} {e : EltTy} (M : Memref sig .tc .vmem s e) (S : Finset (Idx (M.view.loc (c : Thread nD τ)))) (hS : M.view.set = S) :
    (iprop(∃ Y, owns (c : Thread nD τ) M fullShare Y) : sProp 𝕄)
      = iprop(∃ f : Buf (Elt F) (M.view.loc (c : Thread nD τ)), (M.view.loc (c : Thread nD τ)) ↦[S]{fullShare} f) := by
  subst hS
  refine equiv_iff.mp ⟨(?_ : (_ : sProp 𝕄) ⊢ _), (?_ : (_ : sProp 𝕄) ⊢ _)⟩
  · unfold owns; iintro ⟨%Y, %f, %hf, H⟩; iexists f; iexact H
  · unfold owns; iintro ⟨%f, H⟩; iexists (M.view.read (Elt F) f); iexists f
    isplitr; · ipureintro; rfl
    iexact H

theorem xgE_eq (r : Fin 16) : xgE (F := F) c r = part c cc0_scratch0 (R16 r).set :=
  owns_part c (xgS r) (R16 r).set ((View.set_reshape _ _).trans (View.set_slice_whole cc0_scratch0 (R16 r)))
theorem ptE_eq (r : Fin 16) : ptE (F := F) c r = part c cc0_scratch1 (R16 r).set :=
  owns_part c (ptS r) (R16 r).set ((View.set_reshape _ _).trans (View.set_slice_whole cc0_scratch1 (R16 r)))
theorem rsE_eq (r : Fin 15) : rsE (F := F) c r = part c cc0_scratch2 (R15 r).set :=
  owns_part c (rsS r) (R15 r).set ((View.set_reshape _ _).trans (View.set_slice_whole cc0_scratch2 (R15 r)))
theorem rrY_eq (r : Fin 15) : rrY (F := F) c r = part c cc0_scratch3 (R15 r).set :=
  owns_part c (rrS r) (R15 r).set ((View.set_reshape _ _).trans (View.set_slice_whole cc0_scratch3 (R15 r)))
theorem wE_wq : wE (F := F) c wqM = some' c cc0_scratch4 := owns_part c wqM Finset.univ (View.set_whole cc0_scratch4)
theorem wE_wk : wE (F := F) c wkM = some' c cc0_scratch5 := owns_part c wkM Finset.univ (View.set_whole cc0_scratch5)
theorem wE_wv : wE (F := F) c wvM = some' c cc0_scratch6 := owns_part c wvM Finset.univ (View.set_whole cc0_scratch6)
theorem wE_wo : wE (F := F) c woM = some' c cc0_scratch7 := owns_part c woM Finset.univ (View.set_whole cc0_scratch7)

/-- A whole buffer is its parts, when these are disjoint and cover it. -/
theorem some_cut {n : ℕ} (b : Ref sig .tc) (I : Fin n → Finset (Idx ((c : Thread nD τ).loc b)))
    (hd : ∀ r r', r ≠ r' → Disjoint (I r) (I r')) (hc : Finset.univ.biUnion I = Finset.univ) :
    some' (F := F) c b ⊢ bigSep Finset.univ fun r => part c b (I r) := by
  iintro ⟨%f, H⟩
  ihave H := (Entails.of_eq (Idealize.ShloMosaic.Ring.pointsTo_blocks I hd hc f)) $$ H
  have h : (bigSep Finset.univ fun r => ((c : Thread nD τ).loc b) ↦[I r]{fullShare} f : sProp 𝕄) ⊢ bigSep Finset.univ fun r => part c b (I r) :=
    bigSep_mono fun r _ => show (((c : Thread nD τ).loc b) ↦[I r]{fullShare} f : sProp 𝕄) ⊢ part (F := F) c b (I r) from by iintro H; iexists f; iexact H
  iapply h
  iexact H
include m in
theorem some_join {n : ℕ} (b : Ref sig .tc) (I : Fin n → Finset (Idx ((c : Thread nD τ).loc b)))
    (hd : ∀ r r', r ≠ r' → Disjoint (I r) (I r')) (hc : Finset.univ.biUnion I = Finset.univ) :
    (bigSep Finset.univ fun r => part c b (I r)) ⊢ some' (F := F) c b :=
  Idealize.ShloMosaic.Ring.pointsTo_blocks_join_exists I hd hc (m ((c : Thread nD τ).loc b))

/-- The eight scratch buffers, whole. -/
abbrev scratch : sProp 𝕄 :=
  iprop(some' c cc0_scratch0 ∗ some' c cc0_scratch1 ∗ some' c cc0_scratch2 ∗ some' c cc0_scratch3
    ∗ some' c cc0_scratch4 ∗ some' c cc0_scratch5 ∗ some' c cc0_scratch6 ∗ some' c cc0_scratch7)

/-- Whole buffers are slots, and slots whole buffers. -/
theorem bufs_eq : bufs (F := F) c = iprop((bigSep Finset.univ fun r => part c cc0_scratch0 (R16 r).set) ∗ (bigSep Finset.univ fun r => part c cc0_scratch1 (R16 r).set)
    ∗ (bigSep Finset.univ fun r => part c cc0_scratch2 (R15 r).set) ∗ (bigSep Finset.univ fun r => part c cc0_scratch3 (R15 r).set)
    ∗ some' c cc0_scratch4 ∗ some' c cc0_scratch5 ∗ some' c cc0_scratch6 ∗ some' c cc0_scratch7) := by
  unfold bufs
  rw [bigSep_congr fun r _ => xgE_eq c r, bigSep_congr fun r _ => ptE_eq c r, bigSep_congr fun r _ => rsE_eq c r, bigSep_congr fun r _ => rrY_eq c r,
    wE_wq, wE_wk, wE_wv, wE_wo]
theorem bufs_intro : scratch (F := F) c ⊢ bufs c := by
  rw [bufs_eq]
  iintro ⟨H0, H1, H2, H3, H⟩
  isplitl [H0]; · iapply (some_cut c cc0_scratch0 (fun r : Fin 16 => (R16 r).set) disj16 cover16); iexact H0
  isplitl [H1]; · iapply (some_cut c cc0_scratch1 (fun r : Fin 16 => (R16 r).set) disj16 cover16); iexact H1
  isplitl [H2]; · iapply (some_cut c cc0_scratch2 (fun r : Fin 15 => (R15 r).set) disj15 cover15); iexact H2
  isplitl [H3]; · iapply (some_cut c cc0_scratch3 (fun r : Fin 15 => (R15 r).set) disj15 cover15); iexact H3
  iexact H
include m in
theorem bufs_elim : bufs (F := F) c ⊢ scratch c := by
  rw [bufs_eq]
  iintro ⟨H0, H1, H2, H3, H⟩
  isplitl [H0]; · iapply (some_join m c cc0_scratch0 (fun r : Fin 16 => (R16 r).set) disj16 cover16); iexact H0
  isplitl [H1]; · iapply (some_join m c cc0_scratch1 (fun r : Fin 16 => (R16 r).set) disj16 cover16); iexact H1
  isplitl [H2]; · iapply (some_join m c cc0_scratch2 (fun r : Fin 15 => (R15 r).set) disj15 cover15); iexact H2
  isplitl [H3]; · iapply (some_join m c cc0_scratch3 (fun r : Fin 15 => (R15 r).set) disj15 cover15); iexact H3
  iexact H

end Cut
end Cert.KernelIdeal.Ring
end
-- ==== Proof.Launch.lean ====
/-
  The launch: every device's cells opened at once, their tokens dealt around the ring, and the run of the whole program.
-/
module

public import proofs.«01_k».proof.Proof.Slots
public import proofs.«01_k».proof.Proof.BodyEq
public import proofs.«01_k».proof.Proof.Gen.KernelIdeal.Points
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

theorem over_option {T : Type} [Fintype T] [DecidableEq T] (Φ : Option T → sProp 𝕄) :
    bigSep Finset.univ Φ = iprop(Φ none ∗ bigSep Finset.univ fun t : T => Φ (some t)) := by
  have h : (Finset.univ : Finset (Option T)) = insert none (Finset.univ.map Function.Embedding.some) := by
    ext o; cases o <;> simp
  rw [h, bigSep_insert (by simp), bigSep_map]; rfl
theorem over_cells (Φ : Cell → sProp 𝕄) : bigSep Finset.univ Φ = iprop(Φ none ∗ bigSep Finset.univ fun p : Fin 4 × Fin 15 => Φ (some p)) := over_option Φ
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A family over a device's cells is the barrier's member and, for each of the four arrays, a family over its cells. -/
theorem over_all (Φ : Cell → sProp 𝕄) : bigSep Finset.univ Φ
    = iprop(Φ none ∗ bigSep Finset.univ (fun h : Fin 15 => Φ (some (0, h))) ∗ bigSep Finset.univ (fun h : Fin 15 => Φ (some (1, h)))
      ∗ bigSep Finset.univ (fun h : Fin 15 => Φ (some (2, h))) ∗ bigSep Finset.univ (fun h : Fin 15 => Φ (some (3, h)))) := by
  rw [over_cells, bigSep_univ_prod, over_four]

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The tokens minted -/

def ringCells : Finset (GSem nD τ sig) := Finset.univ.map ⟨kcell, kcell_injective⟩

/-- A device's duties: the one named `false` of every cell, and its barrier's named `true` (`none`). -/
def tokOf (x : Dev nD × Option Cell) : GSem nD τ sig × ℕ × Bool := match x.2 with
  | none => (barCell x.1, 0, true)
  | some k => (kcell (x.1, k), 0, false)
theorem tokOf_injective : Function.Injective tokOf := by
  rintro ⟨c, o⟩ ⟨c', o'⟩ h
  rcases o with _ | k <;> rcases o' with _ | k'
  · have := kcell_injective (congrArg Prod.fst h); rw [show c = c' from (Prod.ext_iff.mp this).1]
  · exact absurd (show true = false from congrArg (fun x : GSem nD τ sig × ℕ × Bool => x.2.2) h) (by decide)
  · exact absurd (show false = true from congrArg (fun x : GSem nD τ sig × ℕ × Bool => x.2.2) h) (by decide)
  · have := kcell_injective (congrArg Prod.fst h); rw [show c = c' from (Prod.ext_iff.mp this).1, show k = k' from (Prod.ext_iff.mp this).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of array `a` of device `c`. -/
def arrToks (a : Fin 4) (c : Dev nD) : sProp 𝕄 := bigSep Finset.univ fun h : Fin 15 => dutyTok ER (xc c a h) 0 false
/-- The tokens of device `c`'s own cells; -/
def toks (c : Dev nD) : sProp 𝕄 :=
  iprop(dutyTok ER (barCell c) 0 true ∗ dutyTok ER (barCell c) 0 false ∗ arrToks 0 c ∗ arrToks 1 c ∗ arrToks 2 c ∗ arrToks 3 c)
/-- and those it pays with. -/
def payToks (c : Dev nD) : sProp 𝕄 :=
  iprop(dutyTok ER (barCell (prv c)) 0 true ∗ dutyTok ER (barCell (nxt c)) 0 false ∗ arrToks 0 c ∗ arrToks 1 (nxt c) ∗ arrToks 2 c ∗ arrToks 3 (nxt c))

/-- What the launch deals device `c`. -/
def G (c : Dev nD) : sProp 𝕄 :=
  iprop((bigSep Finset.univ fun k : Cell => roundState ER (sched m ρ) (kcell (c, k)) 0)
    ∗ (bigSep Finset.univ fun k : Cell => iprop(atPos ER (kcell (c, k)) 0 ∅ 0 ∗ reached ER (kcell (c, k)) 0)) ∗ toks c)

/-- What a device keeps to itself once all cells are open: its place at each of its cells, the tokens it pays with. -/
def mine (c : Dev nD) : sProp 𝕄 := iprop((bigSep Finset.univ fun k : Cell => atPos ER (kcell (c, k)) 0 ∅ 0) ∗ payToks c)
def G' (c : Dev nD) : sProp 𝕄 := iprop(∃ K, records m ρ K ∗ mine c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [over_option, over_all]; rfl
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells opened -/

/-- The kernel's own semaphores: those of the four arrays. -/
def osem (p : Fin 4 × Fin 15) : SemLoc sig := csem (some p)

theorem dec_stage : ∀ w s, dec (.dma ((cfg0.win w).sem s)) = none := by decide
theorem osem_scoped : ∀ p, (osem p).isScoped .tc = true := by decide
theorem ownSemFacts : Pipeline.OwnSemFacts cfg0.spec osem where
  isScoped := osem_scoped
  inj p q h := Option.some.inj (csem_injective h)
  disj p w s h := by
    have h2 : dec (csem (some p)) = none := (congrArg dec h).trans (dec_stage w s)
    rw [dec_csem] at h2; exact absurd h2 (by simp)

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier are a device's cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [over_cells, unscopedSems0_eq]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  have ha : iprop((bigSep Finset.univ fun k : Cell => semVal (kcell (c, k)) 0) ∗ bigSep Finset.univ fun k : Cell => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact BIBase.Entails.trans (bigSep_mono fun k _ => BIBase.Entails.trans (Rounds.body_intro ER (sched m ρ) (kcell (c, k))) inv_alloc) (bigSep_fupd _ _)
  unfold G
  iintro ⟨Hos, Hus, Hst, Hat, Htok⟩
  ihave Hv := (sems0_eq (F := F) c) $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-- The tokens dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (arrToks 1 c : sProp 𝕄)), bigSep_univ_equiv ring (fun c : Dev nD => (arrToks 3 c : sProp 𝕄))]
  iintro H
  iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (sched m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m ρ) κ (kcell ck) : sProp 𝕄))) $$ HI
  icases HK with ⟨%K, #HI⟩
  ihave Htk := (toks_around (F := F)) $$ Htok
  have hm (c : Dev nD) : iprop(records m ρ K ∗ mine c) ⊢ G' m ρ c := by
    unfold G'; iintro H; iexists K; iexact H
  iapply (bigSep_with_persistent (R := records m ρ K) fun c _ => hm c)
  isplitr
  · unfold records; isplitl; · iexact HI
    iexact HR
  · unfold mine; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  BIBase.Entails.trans (BIBase.Entails.trans (bigSep_mono fun c _ => core_alloc m ρ c) (bigSep_fupd _ _)) (BI.fupd_mono (regroup m ρ))

/-! ## The credit at launch -/

/-- The arrivals owed to array `a` of device `d`, read at a cell. -/
theorem sum_tally (d c : Dev nD) (a : Fin 4) (k : Cell) :
    (∑ i ∈ from' 0, tallyAt (xc d a i) () N : CellTallies nD τ sig Unit) (kcell (c, k)) ()
      = ∑ i : Fin 15, if kcell (c, k) = xc d a i then N else 0 := by
  rw [from_zero, Finset.sum_apply, Finsupp.finset_sum_apply]
  refine Finset.sum_congr rfl fun i _ => ?_
  rw [tallyAt_apply]
  simp only [and_true]
theorem sum_hit (d c : Dev nD) (a b : Fin 4) (h : Fin 15) :
    (∑ i : Fin 15, if xc c b h = xc d a i then N else 0) = if c = d ∧ b = a then N else 0 := by
  by_cases e : c = d ∧ b = a
  · obtain ⟨rfl, rfl⟩ := e
    rw [if_pos ⟨rfl, rfl⟩, Finset.sum_eq_single h, if_pos rfl]
    · intro i _ hi
      exact if_neg fun h' => hi (by have := (Prod.ext_iff.mp (kcell_injective h')).2; simpa using this.symm)
    · intro h'; exact absurd (Finset.mem_univ _) h'
  · rw [if_neg e]
    refine Finset.sum_eq_zero fun i _ => if_neg fun h' => e ?_
    have := kcell_injective h'
    simp only [Prod.mk.injEq, Option.some.injEq] at this
    exact ⟨this.1, this.2.1⟩
theorem sum_miss (d c : Dev nD) (a : Fin 4) : (∑ i : Fin 15, if barCell c = xc d a i then N else 0) = 0 :=
  Finset.sum_eq_zero fun i _ => if_neg fun h' => by
    have := kcell_injective h'; simp at this

theorem owed_at (d c : Dev nD) (k : Cell) : O₀ d (kcell (c, k)) ()
    = ((∑ i : Fin 15, if kcell (c, k) = xc (nxt d) 1 i then N else 0) + ∑ i : Fin 15, if kcell (c, k) = xc (nxt d) 3 i then N else 0)
      + (if kcell (c, k) = barCell (nxt d) then 1 else 0) + (if kcell (c, k) = barCell (prv d) then 1 else 0) := by
  unfold O₀ O₁ owedXfer
  rw [Pi.add_apply, Finsupp.add_apply, Pi.add_apply, Finsupp.add_apply, Pi.add_apply, Finsupp.add_apply, sum_tally, sum_tally, tallyAt_apply, tallyAt_apply]
  simp only [and_true]

theorem bar_eq_iff (a b : Dev nD) : (barCell a = barCell b) ↔ a = b :=
  ⟨fun h => (Prod.ext_iff.mp (kcell_injective h)).1, fun h => h ▸ rfl⟩
theorem eq_nxt (c d : Dev nD) : c = nxt d ↔ d = prv c :=
  ⟨fun h => by rw [h, prv_nxt], fun h => by rw [h, nxt_prv]⟩
theorem eq_prv (c d : Dev nD) : c = prv d ↔ d = nxt c :=
  ⟨fun h => by rw [h, nxt_prv], fun h => by rw [h, prv_nxt]⟩

/-- A device's barrier is owed a unit by either neighbour. -/
theorem owed_bar (d c : Dev nD) : O₀ d (barCell c) () = (if d = prv c then 1 else 0) + (if d = nxt c then 1 else 0) := by
  rw [owed_at, sum_miss, sum_miss]
  simp only [bar_eq_iff, zero_add, show (c = nxt d) = (d = prv c) from propext (eq_nxt c d), show (c = prv d) = (d = nxt c) from propext (eq_prv c d)]
/-- A device's arrival cell is owed a transfer by its left neighbour. -/
theorem owed_x (d c : Dev nD) (a : Fin 4) (ha : a = 1 ∨ a = 3) (h : Fin 15) : O₀ d (xc c a h) () = if d = prv c then N else 0 := by
  have hb (e : Dev nD) : ¬ (xc c a h = barCell e) := fun h' => by have := kcell_injective h'; simp at this
  rw [owed_at, sum_hit, sum_hit, if_neg (hb _), if_neg (hb _)]
  simp only [eq_nxt, add_zero]
  rcases ha with rfl | rfl
  · rw [if_neg (c := d = prv c ∧ (1 : Fin 4) = 3) (fun h => absurd h.2 (by decide)), add_zero]; simp only [and_true]
  · rw [if_neg (c := d = prv c ∧ (3 : Fin 4) = 1) (fun h => absurd h.2 (by decide)), zero_add]; simp only [and_true]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_x (c : Dev nD) (a : Fin 4) (ha : a = 1 ∨ a = 3) (h : Fin 15) :
    tallyOn (xc c a h) (launchCredit (Pipeline.owing O₀) 0 (xc c a h)) = (tallyAt (xc c a h) () N : CellTallies nD τ sig Unit) := by
  unfold tallyAt; refine congrArg _ (Finsupp.ext fun u => ?_); cases u
  rw [Pipeline.launchCredit_owing, Finsupp.single_eq_same, Finset.sum_congr rfl fun d _ => owed_x d c a ha h,
    Finset.sum_ite_eq' Finset.univ (prv c) fun _ => N, if_pos (Finset.mem_univ _)]

/-- A device's credit: two units at its barrier, a transfer at each arrival cell. -/
def credits (c : Dev nD) : sProp 𝕄 :=
  iprop(cred (tallyAt (barCell c) () 2) ∗ (bigSep Finset.univ fun h : Fin 15 => cred (tallyAt (xc c 1 h) () N))
    ∗ bigSep Finset.univ fun h : Fin 15 => cred (tallyAt (xc c 3 h) () N))

theorem credits_intro (c : Dev nD) : (Pipeline.launchCred O₀ c : sProp 𝕄) ⊢ credits c := by
  have hs : (Pipeline.launchCred O₀ c : sProp 𝕄) ⊢ bigSep Finset.univ fun k : Cell => cred (tallyOn (kcell (c, k)) (launchCredit (Pipeline.owing O₀) 0 (kcell (c, k)))) := by
    unfold Pipeline.launchCred
    refine BIBase.Entails.trans (bigSep_subset (t := Finset.univ.map ⟨csem, csem_injective⟩) (Finset.subset_univ _)) ?_
    rw [bigSep_map]; exact BI.Entails.refl _
  refine BIBase.Entails.trans hs ?_
  rw [over_all, launch_bar, bigSep_congr fun h _ => congrArg cred (launch_x c 1 (Or.inl rfl) h), bigSep_congr fun h _ => congrArg cred (launch_x c 3 (Or.inr rfl) h)]
  unfold credits
  iintro ⟨Hb, -, H1, -, H3⟩
  isplitl [Hb]; · iexact Hb
  isplitl [H1] <;> iassumption

/-- With these a device is ready. -/
theorem ready_intro (c : Dev nD) : iprop(mine c ∗ credits c) ⊢ Ready (F := F) c := by
  unfold mine payToks credits Ready arrToks tok due
  simp only [bigSep_sep']
  rw [over_all]
  iintro ⟨⟨⟨Pb, P0, P1, P2, P3⟩, Tp, Tn, T0, T1, T2, T3⟩, Cb, C1, C3⟩
  isplitl [Tp]; · iexact Tp
  isplitl [Tn]; · iexact Tn
  isplitl [Cb]; · iexact Cb
  isplitl [Pb]; · iexact Pb
  isplitl [T0 T1 P0]
  · isplitl [T0]; · iexact T0
    isplitl [T1] <;> iassumption
  isplitl [T2 T3 P2]
  · isplitl [T2]; · iexact T2
    isplitl [T3] <;> iassumption
  isplitl [C1 P1]
  · isplitl [C1] <;> iassumption
  isplitl [C3] <;> iassumption

end Cert.KernelIdeal.Ring
end
-- ==== Proof.Run.lean ====
/-
  The run of the whole program: from any memory, every device ends with its operands as they were and its result at the
  contents `outAt`, every counter at zero.
-/
module

public import proofs.«01_k».proof.Proof.Launch
public import proofs.«01_k».proof.Proof.BodyEq
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts from: the cells, its rights; -/
def start (c : Dev nD) : sProp 𝕄 := iprop(G' m ρ c ∗ credits c ∗ levAts L lv)
/-- and its scratch buffers; -/
def Φ₀ (c : Dev nD) : sProp 𝕄 := iprop(start m ρ c ∗ scratch c)
/-- what it ends with: its scratch buffers, its cells closed. -/
def Φ₁ (c : Dev nD) : sProp 𝕄 := iprop(scratch c ∗ Done c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wqAt m ρ c
    | ⟨2, _⟩ => wkAt m ρ c
    | ⟨3, _⟩ => wvAt m ρ c
    | ⟨4, _⟩ => woAt m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body -/

/-- The operands' blocks are what is staged when the body starts. -/
theorem before_0 (c : Dev nD) (d) : (dats m ρ 0 c).before (0 : Fin 6) t₀ d = xAt m ρ c := by unfold Dat.before; rw [if_pos (fetch0_0 t₀)]; rfl
theorem before_1 (c : Dev nD) (d) : (dats m ρ 0 c).before (1 : Fin 6) t₀ d = wqAt m ρ c := by unfold Dat.before; rw [if_pos (fetch0_1 t₀)]; rfl
theorem before_2 (c : Dev nD) (d) : (dats m ρ 0 c).before (2 : Fin 6) t₀ d = wkAt m ρ c := by unfold Dat.before; rw [if_pos (fetch0_2 t₀)]; rfl
theorem before_3 (c : Dev nD) (d) : (dats m ρ 0 c).before (3 : Fin 6) t₀ d = wvAt m ρ c := by unfold Dat.before; rw [if_pos (fetch0_3 t₀)]; rfl
theorem before_4 (c : Dev nD) (d) : (dats m ρ 0 c).before (4 : Fin 6) t₀ d = woAt m ρ c := by unfold Dat.before; rw [if_pos (fetch0_4 t₀)]; rfl

def bodyPre (c : Dev nD) : sProp 𝕄 :=
  iprop(Φ₀ m ρ c ∗ (dats m ρ 0 c).owesAt () t₀.castSucc
    ∗ (∃ d, owns (c : Thread nD τ) xM fullShare ((dats m ρ 0 c).before (0 : Fin 6) t₀ d))
    ∗ (∃ d, owns (c : Thread nD τ) (Memref.whole cc0_stg1_0) fullShare ((dats m ρ 0 c).before (1 : Fin 6) t₀ d))
    ∗ (∃ d, owns (c : Thread nD τ) (Memref.whole cc0_stg2_0) fullShare ((dats m ρ 0 c).before (2 : Fin 6) t₀ d))
    ∗ (∃ d, owns (c : Thread nD τ) (Memref.whole cc0_stg3_0) fullShare ((dats m ρ 0 c).before (3 : Fin 6) t₀ d))
    ∗ (∃ d, owns (c : Thread nD τ) (Memref.whole cc0_stg4_0) fullShare ((dats m ρ 0 c).before (4 : Fin 6) t₀ d))
    ∗ (∃ d, owns (c : Thread nD τ) outM fullShare ((dats m ρ 0 c).before (5 : Fin 6) t₀ d)))

def bodyPost (c : Dev nD) : sProp 𝕄 :=
  iprop(Φ₁ c ∗ (dats m ρ 0 c).owesAt () t₀.succ
    ∗ owns (c : Thread nD τ) xM fullShare (xAt m ρ c) ∗ owns (c : Thread nD τ) (Memref.whole cc0_stg1_0) fullShare (wqAt m ρ c)
    ∗ owns (c : Thread nD τ) (Memref.whole cc0_stg2_0) fullShare (wkAt m ρ c) ∗ owns (c : Thread nD τ) (Memref.whole cc0_stg3_0) fullShare (wvAt m ρ c)
    ∗ owns (c : Thread nD τ) (Memref.whole cc0_stg4_0) fullShare (woAt m ρ c) ∗ owns (c : Thread nD τ) outM fullShare (outAt m ρ c))

/-- What is owed at the body's start and end. -/
theorem owes_in (c : Dev nD) : (dats m ρ 0 c).owesAt () t₀.castSucc ⊢ owesX (F := F) c (O₀ c) := by
  unfold Dat.owesAt Pipeline.owesWithin owesX
  rw [show (dats m ρ 0 c).owed t₀.castSucc = O₀ c from rfl]
  iintro ⟨%W, -, HO⟩
  iexists W; iexact HO
theorem owes_out (c : Dev nD) : owesX (F := F) c 0 ⊢ (dats m ρ 0 c).owesAt () t₀.succ := by
  unfold Dat.owesAt Pipeline.owesWithin owesX
  rw [show (dats m ρ 0 c).owed t₀.succ = 0 from rfl]
  iintro ⟨%W, HO⟩
  iexists W
  isplitr; · ipureintro; exact fun _ _ => Or.inl trivial
  iexact HO

theorem sound_body (c : Dev nD) : bodyPre m ρ c
    ⊢ WP c (bodyAt (prv c) (nxt c) (fun _ => nxt c) (fun _ => nxt c)) (fun _ => bodyPost m ρ c) := by
  unfold bodyPre Φ₀ start G'
  iintro ⟨⟨⟨⟨%K, #Hrec, Hm⟩, Hc, #Hlev⟩, Hscr⟩, Ho, ⟨%d0, H0⟩, ⟨%d1, H1⟩, ⟨%d2, H2⟩, ⟨%d3, H3⟩, ⟨%d4, H4⟩, ⟨%d5, H5⟩⟩
  rw [before_0, before_1, before_2, before_3, before_4]
  iapply (body_rule m ρ K c) $$ [Hm Hc Hscr Ho H0 H1 H2 H3 H4 H5]
  · isplitr
    · unfold ctx; isplitr; · iexact Hrec
      iexact Hlev
    isplitl [Hm Hc]
    · iapply (ready_intro c); isplitl [Hm] <;> iassumption
    isplitl [Hscr]; · iapply (bufs_intro c); iexact Hscr
    isplitl [H0 H1 H2 H3 H4]
    · unfold staged
      isplitl [H0]; · iexact H0
      isplitl [H1]; · iexact H1
      isplitl [H2]; · iexact H2
      isplitl [H3] <;> iassumption
    isplitl [H5]; · iexists _; iexact H5
    iapply (owes_in m ρ c); iexact Ho
  iintro ⟨Hd, Hb, Hs, Hout, HO⟩
  unfold bodyPost Φ₁ staged
  icases Hs with ⟨H0, H1, H2, H3, H4⟩
  isplitl [Hb Hd]
  · isplitl [Hb]; · iapply (bufs_elim m c); iexact Hb
    iexact Hd
  isplitl [HO]; · iapply (owes_out m ρ c); iexact HO
  isplitl [H0]; · iexact H0
  isplitl [H1]; · iexact H1
  isplitl [H2]; · iexact H2
  isplitl [H3]; · iexact H3
  isplitl [H4] <;> iassumption

set_option maxRecDepth 100000 in
theorem body_obligation (c : Dev nD) : BodyObligation (dats (F := F) m ρ 0 c) (defs₀ (F := F)) 𝒱₀ () Set.univ := fun t => by
  rw [fin_N t]
  rw [bigSep_W0, bigSep_W0]
  show bodyPre m ρ c ⊢ WP c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11) (fun _ => bodyPost m ρ c)
  rw [cc0_body_eq]
  unfold WP
  rw [wp_deviceId, dev1_eq, dev2_eq, agTo_eq, rsTo_eq]
  exact sound_body m ρ c

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem own_zero (c : Dev nD) : iprop(bigSep Finset.univ (zero (F := F) c 0) ∗ bigSep Finset.univ (zero c 1) ∗ bigSep Finset.univ (zero c 2) ∗ bigSep Finset.univ (zero c 3))
    ⊢ (Pipeline.ownSems0 osem c : sProp 𝕄) := by
  unfold Pipeline.ownSems0; rw [bigSep_univ_prod, over_four]; exact BI.Entails.refl _

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Done
  iintro ⟨Hr, HzB, Hz⟩
  isplitl [HzB]; · iexact HzB
  isplitl [Hz]
  · iapply (own_zero c); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (dec_stage w s) _ (by
      rcases t with ⟨_ | _, ht⟩
      · exact Or.inl rfl
      · exact Or.inr rfl)

/-! ## The run -/

/-- An array's contents at the end. -/
def finalA (c : Dev nD) (w : Fin cfg0.W) : Buf (Elt F) ((cfg0.win w).arr.view.loc (c : Thread nD τ)) := (dats m ρ 0 c).arrAt w cfg0.N

set_option maxRecDepth 100000 in
/-- Every execution ends, with every device's arrays at `finalA` and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- An operand ends as it was. -/
theorem final_in (c : Dev nD) (w : Fin cfg0.W) (h : (cfg0.win w).isOut = false) :
    finalA m ρ c w = m ((cfg0.win w).arr.view.loc (c : Thread nD τ)) := (dats (F := F) m ρ 0 c).arrAt_in w h _

/-- A window is its whole array. -/
theorem blk_0 (f : main_arg0.ty.Contents (Elt F)) : (win0_0.blk (0 : Fin 1)).view.read (Elt F) f = f :=
  View.ld_unit_zero (S := S2x128x512) (funext fun a => by fin_cases a <;> rfl) _ f
theorem blk_1 (f : main_arg1.ty.Contents (Elt F)) : (win0_1.blk (0 : Fin 1)).view.read (Elt F) f = f :=
  View.ld_unit_zero (S := S512x512) (funext fun a => by fin_cases a <;> rfl) _ f
theorem blk_2 (f : main_arg2.ty.Contents (Elt F)) : (win0_2.blk (0 : Fin 1)).view.read (Elt F) f = f :=
  View.ld_unit_zero (S := S512x512) (funext fun a => by fin_cases a <;> rfl) _ f
theorem blk_3 (f : main_arg3.ty.Contents (Elt F)) : (win0_3.blk (0 : Fin 1)).view.read (Elt F) f = f :=
  View.ld_unit_zero (S := S512x512) (funext fun a => by fin_cases a <;> rfl) _ f
theorem blk_4 (f : main_arg4.ty.Contents (Elt F)) : (win0_4.blk (0 : Fin 1)).view.read (Elt F) f = f :=
  View.ld_unit_zero (S := S512x512) (funext fun a => by fin_cases a <;> rfl) _ f
theorem blk_5 (f : main_v1.ty.Contents (Elt F)) : (win0_5.blk (0 : Fin 1)).view.read (Elt F) f = f :=
  View.ld_unit_zero (S := S2x128x512) (funext fun a => by fin_cases a <;> rfl) _ f

/-- So the staged operands are a device's blocks. -/
theorem xAt_eq (c : Dev nD) : xAt m ρ c = m ((c : Thread nD τ).loc main_arg0) := blk_0 _
theorem wqAt_eq (c : Dev nD) : wqAt m ρ c = m ((c : Thread nD τ).loc main_arg1) := blk_1 _
theorem wkAt_eq (c : Dev nD) : wkAt m ρ c = m ((c : Thread nD τ).loc main_arg2) := blk_2 _
theorem wvAt_eq (c : Dev nD) : wvAt m ρ c = m ((c : Thread nD τ).loc main_arg3) := blk_3 _
theorem woAt_eq (c : Dev nD) : woAt m ρ c = m ((c : Thread nD τ).loc main_arg4) := blk_4 _

/-- The result ends at what the body stored. -/
theorem final_out (c : Dev nD) : finalA m ρ c (5 : Fin 6) = outAt m ρ c := by
  have h1 : finalA m ρ c (5 : Fin 6) = (dats m ρ 0 c).arrAt (5 : Fin 6) (0 + 1) := rfl
  rw [h1]
  unfold Dat.arrAt
  dsimp only
  rw [dif_pos (show 0 < cfg0.N by rw [cfg0_N]; decide), if_pos (flush0_5 _)]
  exact (blk_5 _).symm.trans (View.read_write_univ (v := (win0_5.blk (0 : Fin 1)).view) _ _)

/-- The run, told on the program's own arrays. -/
theorem run : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1 c (5 : Fin 6)).trans (final_out m ρ c), (h.1 c (0 : Fin 6)).trans (final_in m ρ c 0 rfl),
    (h.1 c (1 : Fin 6)).trans (final_in m ρ c 1 rfl), (h.1 c (2 : Fin 6)).trans (final_in m ρ c 2 rfl),
    (h.1 c (3 : Fin 6)).trans (final_in m ρ c 3 rfl), (h.1 c (4 : Fin 6)).trans (final_in m ρ c 4 rfl)⟩, h.2⟩) (run_main m ρ)

end Cert.KernelIdeal.Ring
end
-- ==== Proof.Softmax.lean ====
/-
  One row of softmax attention, read in two orders. The kernel divides each weight by the row's sum and then adds up the
  weighted values; the reference adds up the unnormalised weighted values and divides once, and it carries a running
  maximum and a running sum that start at −∞ and 0. Where the scores are real numbers the weights are real, their sum is
  a positive real, and the two orders agree whatever the values are.
-/
module

public import Idealize.ShloMosaic.PureOps.Ideal.Laws
public import Idealize.ShloMosaic.Lib.ValueIdx
public import Idealize.ShloMosaic.Lib.IdealHost

@[expose] public section

noncomputable section

namespace Cert.Attention

open Idealize.ShloMosaic

/-! ## Real numbers among the extended reals -/

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sum {ι : Type} (s : Finset ι) {f : ι → EReal} (hf : ∀ i, IsReal (f i)) : IsReal (∑ i ∈ s, f i) := by
  classical
  induction s using Finset.induction_on with
  | empty => exact ⟨0, by simp⟩
  | insert a s ha ih =>
      rw [Finset.sum_insert ha]
      obtain ⟨r, hr⟩ := hf a
      obtain ⟨t, ht⟩ := ih
      exact ⟨r + t, by rw [hr, ht, EReal.coe_add]⟩

theorem isReal_of_lt {a : EReal} (h1 : a < ⊤) (h2 : ⊥ < a) : IsReal a :=
  ⟨a.toReal, (EReal.coe_toReal h1.ne h2.ne').symm⟩

theorem isReal_of_max_neg_lt {a : EReal} (h : max a (-a) < ⊤) : IsReal a := by
  obtain ⟨h1, h2⟩ := max_lt_iff.1 h
  refine isReal_of_lt h1 ?_
  rw [EReal.neg_lt_comm, EReal.neg_top] at h2
  exact h2

/-- A nonnegative real factor goes through a sum of extended reals. -/
theorem mul_sum_of_nonneg {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
      rw [Finset.sum_insert ha, Finset.sum_insert ha, ← ih,
        EReal.left_distrib_of_nonneg_of_ne_top (EReal.coe_nonneg.2 hc) (EReal.coe_ne_top c)]

/-! ## A row -/

/-- The largest score. -/
def top (s : Fin 128 → EReal) : EReal := (Finset.univ : Finset (Fin 128)).fold max ⊥ s

/-- The unnormalised weight of position `j`. -/
def wt (s : Fin 128 → EReal) (j : Fin 128) : EReal := Ideal.exp (s j - top s)

/-- Each weight divided by the sum, then the weighted values added up. -/
def att (s v : Fin 128 → EReal) : EReal := ∑ j, Ideal.div (wt s j) (∑ k, wt s k) * v j

theorem isReal_top {s : Fin 128 → EReal} (hs : ∀ j, IsReal (s j)) : IsReal (top s) := by
  refine isReal_of_lt ?_ ?_
  · refine (Finset.fold_max_lt _).2 ⟨bot_lt_top, fun j _ => ?_⟩
    obtain ⟨r, hr⟩ := hs j; rw [hr]; exact EReal.coe_lt_top r
  · refine (Finset.lt_fold_max _).2 (Or.inr ⟨0, Finset.mem_univ _, ?_⟩)
    obtain ⟨r, hr⟩ := hs 0; rw [hr]; exact EReal.bot_lt_coe r

theorem wt_real {s : Fin 128 → EReal} (hs : ∀ j, IsReal (s j)) (j : Fin 128) : ∃ r : ℝ, 0 < r ∧ wt s j = (r : EReal) := by
  obtain ⟨M, hM⟩ := isReal_top hs
  obtain ⟨r, hr⟩ := hs j
  refine ⟨Real.exp (r - M), Real.exp_pos _, ?_⟩
  unfold wt; rw [hM, hr, ← EReal.coe_sub]; rfl

theorem sum_wt_real {s : Fin 128 → EReal} (hs : ∀ j, IsReal (s j)) : ∃ L : ℝ, 0 < L ∧ ∑ k, wt s k = (L : EReal) := by
  choose w hw using wt_real hs
  refine ⟨∑ k, w k, Finset.sum_pos (fun k _ => (hw k).1) ⟨0, Finset.mem_univ _⟩, ?_⟩
  have : ∀ t : Finset (Fin 128), ∑ k ∈ t, wt s k = ((∑ k ∈ t, w k : ℝ) : EReal) := by
    intro t
    induction t using Finset.induction_on with
    | empty => simp
    | insert a t ha ih => rw [Finset.sum_insert ha, Finset.sum_insert ha, EReal.coe_add, ih, (hw a).2]
  exact this _

/-- The reference's order gives the same number. `a` is the factor that rescales what was gathered before (nothing). -/
theorem div_sum_eq_att {s : Fin 128 → EReal} (hs : ∀ j, IsReal (s j)) (v : Fin 128 → EReal) (a a' : EReal) :
    Ideal.div (0 * a + ∑ j, v j * wt s j) (0 * a' + (0 + ∑ k, wt s k)) = att s v := by
  obtain ⟨L, hL, e⟩ := sum_wt_real hs
  have hne : (L : EReal) ≠ 0 := by exact_mod_cast hL.ne'
  rw [zero_mul, zero_mul, zero_add, zero_add, zero_add]
  unfold att
  rw [e]
  have hd : ∀ x : EReal, Ideal.div x (L : EReal) = ((L⁻¹ : ℝ) : EReal) * x := by
    intro x; unfold Ideal.div; rw [if_neg hne, mul_comm, EReal.coe_inv]
  rw [hd, mul_sum_of_nonneg _ _ (inv_nonneg.2 hL.le)]
  refine Finset.sum_congr rfl fun j _ => ?_
  rw [hd, mul_assoc, mul_comm (v j)]

end Cert.Attention

end
-- ==== Proof.KernelValue.lean ====
/-
  The attention of one activation slot read at an index: entry `(b, i, n)` of `slotOut x wq wk wv wo` is a sum over the
  512 local columns `t`, each term one softmax row (`Cert.Attention.att`) times an entry of the output weight. Then the
  ring: what a device ends with is the sum of the partial results that all sixteen devices make of its activations.
-/
module

public import proofs.«01_k».proof.Proof.Schedule
public import proofs.«01_k».proof.Proof.Softmax
public import Idealize.ShloMosaic.Lib.ValueIdx
public import Idealize.ShloMosaic.Lib.ValueLayoutCasts
public import Idealize.ShloMosaic.Lib.MatmulPlain
public import Idealize.ShloMosaic.Lib.Pipeline.Value

@[expose] public section

noncomputable section

namespace Cert.KernelIdeal.Ring

open Cert.KernelIdeal Cert.KernelIdeal.Gen Cert.Attention
open Idealize.ShloMosaic Idealize.ShloMosaic.ValueIdx Idealize.SL.Sem

/-! ## One head -/

/-- The scale of the scores. -/
abbrev eighth : EReal := Ideal.ofBits .f32 0x3E000000#32

theorem zero_word : (Ideal.ofBits .f32 0x00000000#32) = 0 := Ideal.ofBits_zero_f32
theorem bot_word : (Ideal.ofBits .f32 0xFF800000#32) = ⊥ := by simp [Ideal.ofBits, Ideal.ieee]

theorem scores_apply (q k : FVec Ideal S128x64 .bf16) (i j : Fin 128) :
    (mulf (matmul dot_S128x64_S128x64_S128x128_1_1_0_0_n_n none q k (constant S128x128 .f32 0x00000000#32))
      (broadcast S128x128 (Scalar.ofBits .f32 0x3E000000#32)) : FVec Ideal S128x128 .f32) (ix2 i j)
      = (∑ e : Fin 64, q (ix2 i e) * k (ix2 j e)) * eighth := by
  have h : (matmul dot_S128x64_S128x64_S128x128_1_1_0_0_n_n none q k (constant S128x128 .f32 0x00000000#32)
      : FVec Ideal S128x128 .f32) (ix2 i j) = ∑ e : Fin 64, q (ix2 i e) * k (ix2 j e) :=
    (Ideal.matmul_transposedRhs_apply (M := 128) (K := 64) (N := 128) none q k (constant ⟨2, ![128, 128]⟩ .f32 0x00000000#32) i j).trans
      (by rw [show (constant ⟨2, ![128, 128]⟩ .f32 0x00000000#32 : FVec Ideal ⟨2, ![128, 128]⟩ .f32) (ix2 i j) = 0 from zero_word, zero_add])
  rw [mulf_apply, h]; rfl

/-- A row vector spread over the columns. -/
theorem spread_apply (x : FVec Ideal S128 .f32) (i j : Fin 128) :
    (broadcastTo S128x128 (shapeCast S128x1 x shapeCasts_S128_S128x1) broadcasts_S128x1_S128x128 : FVec Ideal S128x128 .f32) (ix2 i j) = x (ix1 i) := by
  rw [broadcastTo_apply _ _ (ix2 i j) (ix2 i (0 : Fin 1)) (by intro a; fin_cases a <;> rfl)]
  exact shapeCast_a_a1_apply (a := 128) x shapeCasts_S128_S128x1 i 0

theorem lift_row (i : Fin 128) (k : Fin 128) : reduces_S128x128_S128.lift (ix1 i) k = (ix2 i k : S128x128.Idx) := by
  funext a; apply Fin.ext
  match a with
  | ⟨0, _⟩ => rfl
  | ⟨1, _⟩ => rfl

theorem rowMax_apply (s : FVec Ideal S128x128 .f32) (i : Fin 128) :
    (multiReduction .maximumf [1] S128 s 0xFF800000#32 reduces_S128x128_S128 (.inl rfl) rfl : FVec Ideal S128 .f32) (ix1 i)
      = top fun j => s (ix2 i j) := by
  refine (Ideal.multiReduction_maximumf_single s _ reduces_S128x128_S128 (.inl rfl) rfl (ix1 i)).trans ?_
  show (Finset.univ : Finset (Fin 128)).fold max (Ideal.ofBits .f32 0xFF800000#32) (fun k => s (reduces_S128x128_S128.lift (ix1 i) k)) = _
  rw [bot_word]
  unfold top
  rw [show (fun k => s (reduces_S128x128_S128.lift (ix1 i) k)) = fun j : Fin 128 => s (ix2 i j) from funext fun k => congrArg s (lift_row i k)]
  rfl

theorem rowSum_apply (s : FVec Ideal S128x128 .f32) (i : Fin 128) :
    (multiReduction .add [1] S128 s 0x00000000#32 reduces_S128x128_S128 (.inl rfl) rfl : FVec Ideal S128 .f32) (ix1 i)
      = ∑ j : Fin 128, s (ix2 i j) := by
  refine (Ideal.multiReduction_add_single s _ reduces_S128x128_S128 (.inl rfl) rfl (ix1 i)).trans ?_
  exact Finset.sum_congr rfl fun k _ => congrArg s (lift_row i k)

/-- The weights of a row. -/
theorem weights_apply (s : FVec Ideal S128x128 .f32) (i j : Fin 128) :
    (exp (subf s (broadcastTo S128x128 (shapeCast S128x1 (multiReduction .maximumf [1] S128 s 0xFF800000#32 reduces_S128x128_S128 (.inl rfl) rfl)
      shapeCasts_S128_S128x1) broadcasts_S128x1_S128x128)) : FVec Ideal S128x128 .f32) (ix2 i j) = wt (fun j => s (ix2 i j)) j := by
  show Ideal.exp ((subf s _ : FVec Ideal S128x128 .f32) (ix2 i j)) = _
  rw [subf_apply, spread_apply, rowMax_apply]; rfl

/-- The normalised weights of a row. -/
theorem shares_apply (s : FVec Ideal S128x128 .f32) (w : FVec Ideal S128x128 .f32) (hw : ∀ i j : Fin 128, w (ix2 i j) = wt (fun j => s (ix2 i j)) j) (i j : Fin 128) :
    (truncf .bf16 (divf w (broadcastTo S128x128 (shapeCast S128x1 (multiReduction .add [1] S128 w 0x00000000#32 reduces_S128x128_S128 (.inl rfl) rfl)
      shapeCasts_S128_S128x1) broadcasts_S128x1_S128x128)) bitsLt_bf16_f32 : FVec Ideal S128x128 .bf16) (ix2 i j)
      = Ideal.div (wt (fun j => s (ix2 i j)) j) (∑ k, wt (fun j => s (ix2 i j)) k) := by
  rw [truncf_apply, divf_apply, spread_apply, rowSum_apply, hw]
  exact congrArg _ (Finset.sum_congr rfl fun k _ => hw i k)

theorem headOut_apply (q k v : FVec Ideal S128x64 .bf16) (i : Fin 128) (d : Fin 64) :
    headOut q k v (ix2 i d) = att (fun j => (∑ e : Fin 64, q (ix2 i e) * k (ix2 j e)) * eighth) (fun j => v (ix2 j d)) := by
  unfold headOut
  refine (Ideal.matmul_plain_apply (M := 128) (K := 128) (N := 64) none _ v (constant ⟨2, ![128, 64]⟩ .f32 0x00000000#32) i d).trans ?_
  rw [show (constant ⟨2, ![128, 64]⟩ .f32 0x00000000#32 : FVec Ideal ⟨2, ![128, 64]⟩ .f32) (ix2 i d) = 0 from zero_word, zero_add]
  unfold att
  refine Finset.sum_congr rfl fun j _ => ?_
  refine congrArg (· * v (ix2 j d)) ((shares_apply _ _ (fun i j => weights_apply _ i j) i j).trans ?_)
  simp only [scores_apply]

/-! ## The heads of a row side by side -/

theorem headAt_apply (Q K V : FVec Ideal S256x512 .bf16) (r c : ℕ) (hr : r ≤ 128) (hc : c ≤ 448) (i : Fin 128) (d : Fin 64) :
    headAt Q K V r c hr hc (ix2 i d)
      = att (fun j => (∑ e : Fin 64, Q (ix2 (⟨r + i.val, by omega⟩ : Fin 256) (⟨c + e.val, by omega⟩ : Fin 512))
          * K (ix2 (⟨r + j.val, by omega⟩ : Fin 256) (⟨c + e.val, by omega⟩ : Fin 512))) * eighth)
        (fun j => V (ix2 (⟨r + j.val, by omega⟩ : Fin 256) (⟨c + d.val, by omega⟩ : Fin 512))) := by
  unfold headAt
  have hs : ∀ (X : FVec Ideal S256x512 .bf16) (i : Fin 128) (d : Fin 64),
      extractStridedSlice S128x64 ![r, c] X (slices_at hr hc) (ix2 i d)
        = X (ix2 (⟨r + i.val, by omega⟩ : Fin 256) (⟨c + d.val, by omega⟩ : Fin 512)) := fun X i d =>
    extractStridedSlice_apply _ X _ _ _ (by intro a; fin_cases a <;> rfl)
  rw [headOut_apply]
  simp only [hs]

/-- Column `e` of the head that column `t` lies in. -/
abbrev hcol (t : Fin 512) (e : Fin 64) : Fin 512 := ⟨64 * (t.val / 64) + e.val, by omega⟩

theorem rowOut_apply (Q K V : FVec Ideal S256x512 .bf16) (r : ℕ) (hr : r ≤ 128) (i : Fin 128) (t : Fin 512) :
    rowOut Q K V r hr (ix2 i t)
      = att (fun j => (∑ e : Fin 64, Q (ix2 (⟨r + i.val, by omega⟩ : Fin 256) (hcol t e))
          * K (ix2 (⟨r + j.val, by omega⟩ : Fin 256) (hcol t e))) * eighth)
        (fun j => V (ix2 (⟨r + j.val, by omega⟩ : Fin 256) t)) := by
  refine (concatenate_ofFn_apply (t := S128x512) (s₁ := S128x64) (1 : Fin 2) (fun n : Fin 8 => headAt Q K V r (64 * n.val) hr (by omega))
    concatenates_S128x64_S128x64_S128x64_S128x64_S128x64_S128x64_S128x64_S128x64_S128x512_d1 rfl 64 rfl (ix2 i t)
    (⟨t.val / 64, by omega⟩ : Fin 8) rfl (ix2 i (⟨t.val % 64, by omega⟩ : Fin 64)) rfl ?_).trans ?_
  · intro b hb; fin_cases b
    · rfl
    · exact absurd rfl hb
  · rw [headAt_apply]
    have e : (⟨64 * (t.val / 64) + t.val % 64, by omega⟩ : Fin 512) = t := Fin.ext (by simp only []; omega)
    simp only [e]

/-! ## A slot -/

/-- A projected entry: row `(b, j)` of the activations by column `t` of a weight block. -/
abbrev projAt (x : FVec Ideal S2x128x512 .bf16) (w : FVec Ideal S512x512 .bf16) (b : Fin 2) (j : Fin 128) (t : Fin 512) : EReal :=
  ∑ e : Fin 512, x (ix3 b j e) * w (ix2 e t)

/-- Row `(b, i)` of a batch row as a row of the flattened activations. -/
abbrev flat (b : Fin 2) (i : Fin 128) : Fin 256 := ⟨128 * b.val + i.val, by omega⟩

theorem mm_apply (x : FVec Ideal S256x512 .bf16) (w : FVec Ideal S512x512 .bf16) (p : Fin 256) (n : Fin 512) :
    (matmul dot_S256x512_S512x512_S256x512_1_0_0_1_n_n none x w (constant S256x512 .f32 0x00000000#32) : FVec Ideal S256x512 .f32) (ix2 p n)
      = ∑ t : Fin 512, x (ix2 p t) * w (ix2 t n) := by
  refine (Ideal.matmul_plain_apply (M := 256) (K := 512) (N := 512) none x w (constant ⟨2, ![256, 512]⟩ .f32 0x00000000#32) p n).trans ?_
  rw [show (constant ⟨2, ![256, 512]⟩ .f32 0x00000000#32 : FVec Ideal ⟨2, ![256, 512]⟩ .f32) (ix2 p n) = 0 from zero_word, zero_add]

theorem proj_apply (x : FVec Ideal S2x128x512 .bf16) (w : FVec Ideal S512x512 .bf16) (b : Fin 2) (j : Fin 128) (t : Fin 512) :
    proj (shapeCast S256x512 x shapeCasts_S2x128x512_S256x512) w (ix2 (flat b j) t) = projAt x w b j t := by
  unfold proj
  rw [truncf_apply, mm_apply]
  refine Finset.sum_congr rfl fun e _ => congrArg (· * w (ix2 e t)) ?_
  refine shapeCast_apply x _ _ (ix3 b j e) ?_
  rw [Shape.rowMajor_val_three, Shape.rowMajor_val_two]
  show (b.val * 128 + j.val) * 512 + e.val = (128 * b.val + j.val) * 512 + e.val
  omega

/-- The scores of row `(b, i)` under the head of column `t`. -/
abbrev scoreAt (x : FVec Ideal S2x128x512 .bf16) (wq wk : FVec Ideal S512x512 .bf16) (b : Fin 2) (i : Fin 128) (t : Fin 512) (j : Fin 128) : EReal :=
  (∑ e : Fin 64, projAt x wq b i (hcol t e) * projAt x wk b j (hcol t e)) * eighth

theorem slotOut_apply (x : FVec Ideal S2x128x512 .bf16) (wq wk wv wo : FVec Ideal S512x512 .bf16) (b : Fin 2) (i : Fin 128) (n : Fin 512) :
    slotOut x wq wk wv wo (ix3 b i n)
      = ∑ t : Fin 512, att (scoreAt x wq wk b i t) (fun j => projAt x wv b j t) * wo (ix2 t n) := by
  unfold slotOut
  refine (shapeCast_apply _ _ _ (ix2 (flat b i) n) ?_).trans ?_
  · rw [Shape.rowMajor_val_three, Shape.rowMajor_val_two]
    show (128 * b.val + i.val) * 512 + n.val = (b.val * 128 + i.val) * 512 + n.val
    omega
  rw [mm_apply]
  refine Finset.sum_congr rfl fun t _ => congrArg (· * wo (ix2 t n)) ?_
  rw [truncf_apply]
  have key : ∀ (r : ℕ) (hr : r ≤ 128), r = 128 * b.val →
      rowOut (proj (shapeCast S256x512 x shapeCasts_S2x128x512_S256x512) wq) (proj (shapeCast S256x512 x shapeCasts_S2x128x512_S256x512) wk)
        (proj (shapeCast S256x512 x shapeCasts_S2x128x512_S256x512) wv) r hr (ix2 i t)
        = att (scoreAt x wq wk b i t) (fun j => projAt x wv b j t) := by
    intro r hr e
    subst e
    rw [rowOut_apply]
    have h := proj_apply x
    simp only [flat] at h
    simp only [h]
  refine (concatenate_ofFn_apply (t := S256x512) (s₁ := S128x512) (0 : Fin 2)
    (fun k : Fin 2 => rowOut (proj (shapeCast S256x512 x shapeCasts_S2x128x512_S256x512) wq) (proj (shapeCast S256x512 x shapeCasts_S2x128x512_S256x512) wk)
        (proj (shapeCast S256x512 x shapeCasts_S2x128x512_S256x512) wv) (128 * k.val) (by omega))
    concatenates_S128x512_S128x512_S256x512_d0 rfl 128 rfl (ix2 (flat b i) t) b ?_ (ix2 i t) ?_ ?_).trans (key _ _ rfl)
  · show (128 * b.val + i.val) / 128 = b.val; omega
  · show i.val = (128 * b.val + i.val) % 128; omega
  · intro a ha; fin_cases a
    · exact absurd rfl ha
    · rfl

/-! ## The ring -/

variable (m : (ℓ : Loc nD τ sig) → Buf (Elt Ideal) ℓ) (ρ : Dev nD → PrngReg)

/-- What device `d` makes of device `c`'s activations, at an index. -/
abbrev share (c d : Dev nD) (idx : S2x128x512.Idx) : EReal :=
  slotOut (xAt m ρ c) (wqAt m ρ d) (wkAt m ρ d) (wvAt m ρ d) (woAt m ρ d) idx

/-- A running sum holds, of one device's activations, the shares of the device and its left neighbours. -/
theorem runSum_apply (t : ℕ) : ∀ (c : Dev nD) (idx : S2x128x512.Idx),
    runSum m ρ t c idx = ∑ k ∈ Finset.range (t + 1), share m ρ (back (t + 1) c) (back k c) idx := by
  induction t with
  | zero =>
      intro c idx
      rw [Finset.sum_range_one]; rfl
  | succ t ih =>
      intro c idx
      rw [Finset.sum_range_succ']
      show partAt m ρ c (t + 2) idx + runSum m ρ t (prv c) idx = _
      rw [ih, add_comm]
      rfl

/-- The sixteen left neighbours of a device are the sixteen devices. -/
theorem sum_back (c : Dev nD) (f : Dev nD → EReal) : ∑ k ∈ Finset.range 16, f (back k c) = ∑ d : Dev nD, f d := by
  rw [← Fin.sum_univ_eq_sum_range (fun k => f (back k c)) 16]
  have hb : Function.Bijective (fun k : Fin 16 => back k.val c) := by
    refine (Fintype.bijective_iff_injective_and_card _).2 ⟨?_, by decide⟩
    intro a b
    revert a b c
    decide
  exact Function.Bijective.sum_comp hb f

theorem back_all (c : Dev nD) : back 16 c = c := by revert c; decide

/-- What device `c` ends with: the shares of all the devices. -/
theorem outAt_apply (c : Dev nD) (idx : S2x128x512.Idx) : outAt m ρ c idx = ∑ d : Dev nD, share m ρ c d idx := by
  rw [← sum_back c (fun d => share m ρ c d idx), Finset.sum_range_succ']
  show partAt m ρ c 0 idx + runSum m ρ 14 (prv c) idx = _
  rw [runSum_apply, add_comm]
  have e : back (14 + 1) (prv c) = c := back_all c
  rw [e]
  rfl

end Cert.KernelIdeal.Ring

end
-- ==== Proof.RefValue.lean ====
/-
  The reference's result read at an index: entry `(B, i, n)` is a sum over the 8192 columns `T`, each term one softmax
  row (`Cert.Attention.att`) times an entry of the output weight, wherever the scores are real numbers.
-/
module

public import proofs.«01_k».proof.Proof.Gen.ReferenceIdeal.Run
public import proofs.«01_k».proof.Proof.Softmax
public import Idealize.ShloMosaic.Lib.ValueIdx
public import Idealize.ShloMosaic.Lib.ValueIdxCoords
public import Idealize.ShloMosaic.Lib.IdealHost
public import Idealize.ShloMosaic.Lib.Pipeline.Value

@[expose] public section

noncomputable section

namespace Cert.ReferenceIdeal.Ring

open Cert.ReferenceIdeal Cert.ReferenceIdeal.Gen Cert.Attention
open Idealize.ShloMosaic Idealize.ShloMosaic.ValueIdx Idealize.SL.Sem

/-! ## The four products -/

theorem dotIn_apply (l : FVec Ideal S32x128x512 .bf16) (r : FVec Ideal S512x8192 .bf16) (b : Fin 32) (i : Fin 128) (n : Fin 8192) :
    (Host.dotGeneral dot_S32x128x512_S512x8192_S32x128x8192_2_0_01_1_n_n none l r : FVec Ideal S32x128x8192 .f32) (ix3 b i n)
      = ∑ k : Fin 512, l (ix3 b i k) * r (ix2 k n) := by
  simp only [Host.dotGeneral]
  rw [Ideal.dotGeneral_apply, ← Equiv.sum_comp (contrEquiv1 dot_S32x128x512_S512x8192_S32x128x8192_2_0_01_1_n_n 512 rfl rfl).symm]
  refine Finset.sum_congr rfl fun k _ => ?_
  have hk := contrEquiv1_symm_val dot_S32x128x512_S512x8192_S32x128x8192_2_0_01_1_n_n 512 rfl rfl k
  refine congrArg₂ (fun (a b : EReal) => a * b) (congrArg l ?_) (congrArg r ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

theorem dotScore_apply (q k : FVec Ideal S32x128x128x64 .bf16) (b : Fin 32) (h i j : Fin 128) :
    (Host.dotGeneral dot_S32x128x128x64_S32x128x128x64_S32x128x128x128_3_3_1_1_02_02 none q k : FVec Ideal S32x128x128x128 .f32) (ix4 b h i j)
      = ∑ d : Fin 64, q (ix4 b i h d) * k (ix4 b j h d) := by
  simp only [Host.dotGeneral]
  rw [Ideal.dotGeneral_apply, ← Equiv.sum_comp (contrEquiv1 dot_S32x128x128x64_S32x128x128x64_S32x128x128x128_3_3_1_1_02_02 64 rfl rfl).symm]
  refine Finset.sum_congr rfl fun d _ => ?_
  have hk := contrEquiv1_symm_val dot_S32x128x128x64_S32x128x128x64_S32x128x128x128_3_3_1_1_02_02 64 rfl rfl d
  refine congrArg₂ (fun (a b : EReal) => a * b) (congrArg q ?_) (congrArg k ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem dotValue_apply (v : FVec Ideal S32x128x128x64 .f32) (p : FVec Ideal S32x128x128x128 .f32) (b : Fin 32) (h : Fin 128) (d : Fin 64) (i : Fin 128) :
    (Host.dotGeneral dot_S32x128x128x64_S32x128x128x128_S32x128x64x128_1_3_3_2_02_01 none v p : FVec Ideal S32x128x64x128 .f32) (ix4 b h d i)
      = ∑ j : Fin 128, v (ix4 b j h d) * p (ix4 b h i j) := by
  simp only [Host.dotGeneral]
  rw [Ideal.dotGeneral_apply, ← Equiv.sum_comp (contrEquiv1 dot_S32x128x128x64_S32x128x128x128_S32x128x64x128_1_3_3_2_02_01 128 rfl rfl).symm]
  refine Finset.sum_congr rfl fun j _ => ?_
  have hk := contrEquiv1_symm_val dot_S32x128x128x64_S32x128x128x128_S32x128x64x128_1_3_3_2_02_01 128 rfl rfl j
  refine congrArg₂ (fun (a b : EReal) => a * b) (congrArg v ?_) (congrArg p ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

theorem dotOut_apply (l : FVec Ideal S32x128x8192 .f32) (r : FVec Ideal S8192x512 .f32) (b : Fin 32) (i : Fin 128) (n : Fin 512) :
    (Host.dotGeneral dot_S32x128x8192_S8192x512_S32x128x512_2_0_01_1_n_n none l r : FVec Ideal S32x128x512 .f32) (ix3 b i n)
      = ∑ k : Fin 8192, l (ix3 b i k) * r (ix2 k n) := by
  simp only [Host.dotGeneral]
  rw [Ideal.dotGeneral_apply, ← Equiv.sum_comp (contrEquiv1 dot_S32x128x8192_S8192x512_S32x128x512_2_0_01_1_n_n 8192 rfl rfl).symm]
  refine Finset.sum_congr rfl fun k _ => ?_
  have hk := contrEquiv1_symm_val dot_S32x128x8192_S8192x512_S32x128x512_2_0_01_1_n_n 8192 rfl rfl k
  refine congrArg₂ (fun (a b : EReal) => a * b) (congrArg l ?_) (congrArg r ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-! ## The stages of the reference -/

/-- −∞ and 0, each everywhere. -/
abbrev cNegInf : FVec Ideal S32x128x128x1 .f32 := broadcastInDim S32x128x128x1 ![] bcast_S_S32x128x128x1 (constant S_ .f32 0xFF800000#32)
abbrev cZero : FVec Ideal S32x128x128x1 .f32 := broadcastInDim S32x128x128x1 ![] bcast_S_S32x128x128x1 (constant S_ .f32 0x00000000#32)
abbrev cZeroOut : FVec Ideal S32x128x128x64 .f32 := broadcastInDim S32x128x128x64 ![] bcast_S_S32x128x128x64 (constant S_ .f32 0x00000000#32)

/-- A projection, cut into heads. -/
def heads (x : FVec Ideal S32x128x512 .bf16) (w : FVec Ideal S512x8192 .bf16) : FVec Ideal S32x128x128x64 .bf16 :=
  shapeCast S32x128x128x64 (truncf .bf16 (Host.dotGeneral dot_S32x128x512_S512x8192_S32x128x8192_2_0_01_1_n_n none x w) bitsLt_bf16_f32 : FVec Ideal S32x128x8192 .bf16)
    shapeCasts_S32x128x8192_S32x128x128x64

/-- The scores. -/
def scores (q k : FVec Ideal S32x128x128x64 .bf16) : FVec Ideal S32x128x128x128 .f32 :=
  mulf (extf .f32 (truncf .bf16 (Host.dotGeneral dot_S32x128x128x64_S32x128x128x64_S32x128x128x128_3_3_1_1_02_02 none q k : FVec Ideal S32x128x128x128 .f32) bitsLt_bf16_f32) bitsLt_bf16_f32)
    (broadcastInDim S32x128x128x128 ![] bcast_S_S32x128x128x128 (constant S_ .f32 0x3E000000#32))

/-- A row vector as a column. -/
abbrev col (x : FVec Ideal S32x128x128 .f32) : FVec Ideal S32x128x128x1 .f32 :=
  broadcastInDim S32x128x128x1 ![0, 1, 2] bcast_S32x128x128_S32x128x128x1_0_1_2 x

/-- The row maxima. -/
def rowMax (s : FVec Ideal S32x128x128x128 .f32) : FVec Ideal S32x128x128x1 .f32 :=
  maximumf cNegInf (col (Host.reduce FloatOps.maximumf s (constant S_ .f32 0xFF800000#32) reducesTo_S32x128x128x128_S32x128x128_d3 h_S_))

/-- The factor that rescales what was gathered before. -/
def rescale (s : FVec Ideal S32x128x128x128 .f32) : FVec Ideal S32x128x128x1 .f32 := Host.exp (subf cNegInf (rowMax s))

/-- The unnormalised weights. -/
def weights (s : FVec Ideal S32x128x128x128 .f32) : FVec Ideal S32x128x128x128 .f32 :=
  Host.exp (subf s (broadcastInDim S32x128x128x128 ![0, 1, 2, 3] bcast_S32x128x128x1_S32x128x128x128_0_1_2_3 (rowMax s)))

/-- The row sums. -/
def rowSum (s : FVec Ideal S32x128x128x128 .f32) : FVec Ideal S32x128x128x1 .f32 :=
  addf (mulf cZero (rescale s)) (col (Host.reduceAdd (weights s) (constant S_ .f32 0x00000000#32) reducesTo_S32x128x128x128_S32x128x128_d3 h_S_))

/-- A row vector, transposed and spread over a head's columns. -/
abbrev spread (x : FVec Ideal S32x128x128x1 .f32) : FVec Ideal S32x128x128x64 .f32 :=
  broadcastInDim S32x128x128x64 ![0, 1, 2, 3] bcast_S32x128x128x1_S32x128x128x64_0_1_2_3
    (transpose S32x128x128x1 [0, 2, 1, 3] x transposes_S32x128x128x1_S32x128x128x1_0_2_1_3)

/-- The attention. -/
def attention (s : FVec Ideal S32x128x128x128 .f32) (v : FVec Ideal S32x128x128x64 .bf16) : FVec Ideal S32x128x128x64 .f32 :=
  Host.divf (addf (mulf cZeroOut (spread (rescale s)))
      (transpose S32x128x128x64 [0, 3, 1, 2]
        (Host.dotGeneral dot_S32x128x128x64_S32x128x128x128_S32x128x64x128_1_3_3_2_02_01 none (extf .f32 v bitsLt_bf16_f32) (weights s))
        transposes_S32x128x64x128_S32x128x128x64_0_3_1_2))
    (spread (rowSum s))

/-- The result. -/
def result (x : FVec Ideal S32x128x512 .bf16) (wq wk wv : FVec Ideal S512x8192 .bf16) (wo : FVec Ideal S8192x512 .bf16) : FVec Ideal S32x128x512 .f32 :=
  Host.dotGeneral dot_S32x128x8192_S8192x512_S32x128x512_2_0_01_1_n_n none
    (shapeCast S32x128x8192 (attention (scores (heads x wq) (heads x wk)) (heads x wv)) shapeCasts_S32x128x128x64_S32x128x8192)
    (extf .f32 wo bitsLt_bf16_f32)

theorem res_eq (m : (ℓ : Loc nD τ sig) → Buf (Elt Ideal) ℓ) (c : Dev nD) :
    Value.res_main_v41 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v41 result attention rowSum weights rescale rowMax scores heads
  rfl

/-! ## The stages at an index -/

/-- The scale of the scores. -/
abbrev eighth : EReal := Ideal.ofBits .f32 0x3E000000#32

theorem zero_word : (Ideal.ofBits .f32 0x00000000#32) = 0 := Ideal.ofBits_zero_f32
theorem bot_word : (Ideal.ofBits .f32 0xFF800000#32) = ⊥ := by simp [Ideal.ofBits, Ideal.ieee]

theorem cNegInf_apply (i : S32x128x128x1.Idx) : cNegInf i = ⊥ := (broadcastInDim_scalar_apply _ _ _).trans bot_word
theorem cZero_apply (i : S32x128x128x1.Idx) : cZero i = 0 := (broadcastInDim_scalar_apply _ _ _).trans zero_word
theorem cZeroOut_apply (i : S32x128x128x64.Idx) : cZeroOut i = 0 := (broadcastInDim_scalar_apply _ _ _).trans zero_word

/-- Column `d` of head `h`. -/
abbrev hcol (h : Fin 128) (d : Fin 64) : Fin 8192 := ⟨64 * h.val + d.val, by omega⟩

/-- A projected entry. -/
abbrev projAt (x : FVec Ideal S32x128x512 .bf16) (w : FVec Ideal S512x8192 .bf16) (b : Fin 32) (j : Fin 128) (t : Fin 8192) : EReal :=
  ∑ e : Fin 512, x (ix3 b j e) * w (ix2 e t)

theorem heads_apply (x : FVec Ideal S32x128x512 .bf16) (w : FVec Ideal S512x8192 .bf16) (b : Fin 32) (j h : Fin 128) (d : Fin 64) :
    heads x w (ix4 b j h d) = projAt x w b j (hcol h d) := by
  unfold heads
  refine (shapeCast_apply _ _ _ (ix3 b j (hcol h d)) ?_).trans ?_
  · rw [Shape.rowMajor_val_three, Shape.rowMajor_val_four]
    show (b.val * 128 + j.val) * 8192 + (64 * h.val + d.val) = ((b.val * 128 + j.val) * 128 + h.val) * 64 + d.val
    omega
  · rw [truncf_apply, dotIn_apply]

theorem scores_apply (q k : FVec Ideal S32x128x128x64 .bf16) (b : Fin 32) (h i j : Fin 128) :
    scores q k (ix4 b h i j) = (∑ d : Fin 64, q (ix4 b i h d) * k (ix4 b j h d)) * eighth := by
  unfold scores
  rw [mulf_apply, extf_apply, truncf_apply, dotScore_apply]
  exact congrArg _ (broadcastInDim_scalar_apply _ _ _)

theorem reduces_last : S32x128x128x128.Reduces [3] S32x128x128 := by decide

theorem lift_last (b : Fin 32) (h i j : Fin 128) : reduces_last.lift (ix3 b h i) j = (ix4 b h i j : S32x128x128x128.Idx) := by
  funext a; apply Fin.ext
  match a with
  | ⟨0, _⟩ => rfl
  | ⟨1, _⟩ => rfl
  | ⟨2, _⟩ => rfl
  | ⟨3, _⟩ => rfl

theorem col_apply (x : FVec Ideal S32x128x128 .f32) (b : Fin 32) (h i : Fin 128) : col x (ix4 b h i (0 : Fin 1)) = x (ix3 b h i) :=
  broadcastInDim_apply _ _ _ _ _ (by intro a; fin_cases a <;> rfl)

theorem rowMax_apply (s : FVec Ideal S32x128x128x128 .f32) (b : Fin 32) (h i : Fin 128) :
    rowMax s (ix4 b h i (0 : Fin 1)) = top fun j => s (ix4 b h i j) := by
  unfold rowMax
  rw [maximumf_apply, cNegInf_apply, col_apply, max_eq_right bot_le]
  refine (Host.reduce_eq_fold_single FloatOps.maximumf s _ reducesTo_S32x128x128x128_S32x128x128_d3 reduces_last h_S_ (ix3 b h i)).trans ?_
  show (Finset.univ : Finset (Fin 128)).fold max (Ideal.ofBits .f32 0xFF800000#32) (fun k => s (reduces_last.lift (ix3 b h i) k)) = _
  rw [bot_word]
  unfold top
  rw [show (fun k => s (reduces_last.lift (ix3 b h i) k)) = fun j : Fin 128 => s (ix4 b h i j) from funext fun k => congrArg s (lift_last b h i k)]
  rfl

theorem weights_apply (s : FVec Ideal S32x128x128x128 .f32) (b : Fin 32) (h i j : Fin 128) :
    weights s (ix4 b h i j) = wt (fun j => s (ix4 b h i j)) j := by
  unfold weights
  show Ideal.exp ((subf s _ : FVec Ideal S32x128x128x128 .f32) (ix4 b h i j)) = _
  rw [subf_apply, broadcastInDim_apply _ _ _ (ix4 b h i j) (ix4 b h i (0 : Fin 1)) (by intro a; fin_cases a <;> rfl), rowMax_apply]
  rfl

theorem rowSum_apply (s : FVec Ideal S32x128x128x128 .f32) (b : Fin 32) (h i : Fin 128) :
    rowSum s (ix4 b h i (0 : Fin 1)) = 0 * rescale s (ix4 b h i (0 : Fin 1)) + (0 + ∑ j, wt (fun j => s (ix4 b h i j)) j) := by
  unfold rowSum
  rw [addf_apply, mulf_apply, cZero_apply, col_apply, hostReduceAdd_apply]
  refine congrArg _ ((Ideal.hostReduceAdd_single reducesTo_S32x128x128x128_S32x128x128_d3 reduces_last _ _ _).trans ?_)
  refine congrArg₂ (fun (a b : EReal) => a + b) zero_word (Finset.sum_congr rfl fun k _ => ?_)
  exact (congrArg (weights s) (lift_last b h i k)).trans (weights_apply s b h i k)

theorem spread_apply (x : FVec Ideal S32x128x128x1 .f32) (b : Fin 32) (i h : Fin 128) (d : Fin 64) :
    spread x (ix4 b i h d) = x (ix4 b h i (0 : Fin 1)) := by
  refine (broadcastInDim_apply _ _ _ (ix4 b i h d) (ix4 b i h (0 : Fin 1)) (by intro a; fin_cases a <;> rfl)).trans ?_
  exact transpose_apply _ _ _ _ _ (by intro a; fin_cases a <;> rfl)

theorem attention_apply (s : FVec Ideal S32x128x128x128 .f32) (v : FVec Ideal S32x128x128x64 .bf16) (b : Fin 32) (i h : Fin 128) (d : Fin 64)
    (hs : ∀ j, IsReal (s (ix4 b h i j))) :
    attention s v (ix4 b i h d) = att (fun j => s (ix4 b h i j)) (fun j => v (ix4 b j h d)) := by
  unfold attention
  rw [hostDivf_apply, addf_apply, mulf_apply, cZeroOut_apply, spread_apply, spread_apply, rowSum_apply,
    transpose_apply _ _ _ (ix4 b i h d) (ix4 b h d i) (by intro a; fin_cases a <;> rfl), dotValue_apply]
  simp only [extf_apply, weights_apply]
  exact div_sum_eq_att hs _ _ _

/-- The head and the place in it of a column. -/
abbrev headOf (t : Fin 8192) : Fin 128 := ⟨t.val / 64, by omega⟩
abbrev placeOf (t : Fin 8192) : Fin 64 := ⟨t.val % 64, by omega⟩

/-- The scores of row `(b, i)` under the head of column `t`. -/
abbrev scoreAt (x : FVec Ideal S32x128x512 .bf16) (wq wk : FVec Ideal S512x8192 .bf16) (b : Fin 32) (i : Fin 128) (t : Fin 8192) (j : Fin 128) : EReal :=
  (∑ e : Fin 64, projAt x wq b i (hcol (headOf t) e) * projAt x wk b j (hcol (headOf t) e)) * eighth

theorem result_apply (x : FVec Ideal S32x128x512 .bf16) (wq wk wv : FVec Ideal S512x8192 .bf16) (wo : FVec Ideal S8192x512 .bf16)
    (b : Fin 32) (i : Fin 128) (n : Fin 512) (hs : ∀ t j, IsReal (scoreAt x wq wk b i t j)) :
    result x wq wk wv wo (ix3 b i n)
      = ∑ t : Fin 8192, att (scoreAt x wq wk b i t) (fun j => projAt x wv b j t) * wo (ix2 t n) := by
  unfold result
  rw [dotOut_apply]
  refine Finset.sum_congr rfl fun t _ => ?_
  rw [extf_apply]
  refine congrArg (· * wo (ix2 t n)) ?_
  have hsc : ∀ j, scores (heads x wq) (heads x wk) (ix4 b (headOf t) i j) = scoreAt x wq wk b i t j := fun j => by
    rw [scores_apply]; simp only [heads_apply]
  refine (shapeCast_apply _ _ _ (ix4 b i (headOf t) (placeOf t)) ?_).trans ?_
  · rw [Shape.rowMajor_val_three, Shape.rowMajor_val_four]
    show ((b.val * 128 + i.val) * 128 + t.val / 64) * 64 + t.val % 64 = (b.val * 128 + i.val) * 8192 + t.val
    omega
  rw [attention_apply _ _ _ _ _ _ (fun j => by rw [hsc]; exact hs t j)]
  simp only [hsc, heads_apply]
  have e : hcol (headOf t) (placeOf t) = t := Fin.ext (by show 64 * (t.val / 64) + t.val % 64 = t.val; omega)
  rw [e]

end Cert.ReferenceIdeal.Ring

end
-- ==== Proof.Compare.lean ====
/-
  The two results against each other. The hypothesis `finite` says that the activations and the query and key weights are
  real numbers; then so are the scores. Block `c` of the reference's result is what device `c` ends with: its rows are
  the device's rows, and its sum over 8192 columns is the sum over the sixteen devices of their 512 columns.
-/
module

public import proofs.«01_k».proof.Proof.KernelValue
public import proofs.«01_k».proof.Proof.RefValue
public import proofs.«01_k».proof.Pre_finite_KernelIdeal
public import proofs.«01_k».proof.Pre_finite_ReferenceIdeal
public import Idealize.ShloMosaic.Lib.ReduceAll
public import Idealize.ShloMosaic.Lib.Layout

@[expose] public section

noncomputable section

namespace Cert.Compare

open Cert.Attention
open Idealize.ShloMosaic Idealize.ShloMosaic.ValueIdx Idealize.SL.Sem

/-! ## The hypothesis -/

/-- The side conditions the hypothesis's text states, of a device's shapes and of the whole arrays'. -/
theorem facts_blocks : Cert.Pre_finite_KernelIdeal.Facts := by constructor <;> decide
theorem facts_whole : Cert.Pre_finite_ReferenceIdeal.Facts := by constructor <;> decide

theorem inf_word : (Ideal.ofBits .f32 0x7F800000#32) = ⊤ := by simp [Ideal.ofBits, Ideal.ieee]

/-- An entry whose magnitude compares below infinity is a real number. -/
theorem isReal_of_word {a : EReal} (h : Ideal.cmp .olt (max a (-a)) (Ideal.ofBits .f32 0x7F800000#32) = 1#1) : IsReal a := by
  rw [inf_word] at h
  refine isReal_of_max_neg_lt ?_
  by_contra hn
  simp [Ideal.cmp, hn] at h

instance : Subsingleton (Cert.Pre_finite_KernelIdeal.S_).Idx := ⟨fun a b => funext fun k => k.elim0⟩

theorem and_words : ∀ a b : BitVec 1, IntOp.andi a b = 1#1 → a = 1#1 ∧ b = 1#1 := by decide

/-- What the hypothesis says of a device's blocks. -/
theorem isReal_of_finite [Cert.Pre_finite_KernelIdeal.Facts] (x : FVec Ideal ⟨3, ![2, 128, 512]⟩ .bf16) (wq wk wv wo : FVec Ideal ⟨2, ![512, 512]⟩ .bf16)
    (h : Cert.Pre_finite_KernelIdeal.fn (F := Ideal) x wq wk wv wo = fun _ => 1#1) :
    (∀ i, IsReal (x i)) ∧ (∀ i, IsReal (wq i)) ∧ (∀ i, IsReal (wk i)) := by
  have h0 := congrFun h ix0
  obtain ⟨h1, hk⟩ := and_words _ _ h0
  obtain ⟨hx, hq⟩ := and_words _ _ h1
  exact ⟨fun i => isReal_of_word (Host.reduce_andi_all _ _ _ _ _ hx i), fun i => isReal_of_word (Host.reduce_andi_all _ _ _ _ _ hq i),
    fun i => isReal_of_word (Host.reduce_andi_all _ _ _ _ _ hk i)⟩

/-! ## Blocks -/

abbrev XW := FVec Ideal ⟨3, ![32, 128, 512]⟩ .bf16
abbrev WW := FVec Ideal ⟨2, ![512, 8192]⟩ .bf16
abbrev OW := FVec Ideal ⟨2, ![8192, 512]⟩ .bf16

/-- Batch row `b` of device `c` among all, and column `t` of device `d` among all. -/
abbrev brow (c : Fin 16) (b : Fin 2) : Fin 32 := ⟨c.val * 2 + b.val, by omega⟩
abbrev wcol (d : Fin 16) (t : Fin 512) : Fin 8192 := ⟨d.val * 512 + t.val, by omega⟩

theorem block_rows {α : Type} (X : (⟨3, ![32, 128, 512]⟩ : Shape).Idx → α) (c : Fin 16) (b : Fin 2) (j : Fin 128) (e : Fin 512) :
    Layout.block ⟨3, ![2, 128, 512]⟩ ⟨3, ![32, 128, 512]⟩ 0 16 c X (by decide) (ix3 b j e) = X (ix3 (brow c b) j e) := by
  rw [Layout.block_apply]
  refine congrArg X (funext fun a => Fin.ext ?_)
  fin_cases a <;> rfl

theorem block_cols {α : Type} (W : (⟨2, ![512, 8192]⟩ : Shape).Idx → α) (d : Fin 16) (e t : Fin 512) :
    Layout.block ⟨2, ![512, 512]⟩ ⟨2, ![512, 8192]⟩ 1 16 d W (by decide) (ix2 e t) = W (ix2 e (wcol d t)) := by
  rw [Layout.block_apply]
  refine congrArg W (funext fun a => Fin.ext ?_)
  fin_cases a <;> rfl

theorem block_orows {α : Type} (W : (⟨2, ![8192, 512]⟩ : Shape).Idx → α) (d : Fin 16) (t n : Fin 512) :
    Layout.block ⟨2, ![512, 512]⟩ ⟨2, ![8192, 512]⟩ 0 16 d W (by decide) (ix2 t n) = W (ix2 (wcol d t) n) := by
  rw [Layout.block_apply]
  refine congrArg W (funext fun a => Fin.ext ?_)
  fin_cases a <;> rfl

/-- A sum over all the columns, device by device. -/
theorem sum_cols (f : Fin 8192 → EReal) : ∑ T, f T = ∑ d : Fin 16, ∑ t : Fin 512, f (wcol d t) := by
  rw [← Equiv.sum_comp (finProdFinEquiv (m := 16) (n := 512)) f, Fintype.sum_prod_type]
  refine Finset.sum_congr rfl fun d _ => Finset.sum_congr rfl fun t _ => congrArg f (Fin.ext ?_)
  show t.val + 512 * d.val = d.val * 512 + t.val
  omega

/-! ## The scores are real numbers -/

theorem real_rows (X : XW) (h : ∀ c i, IsReal (Layout.block ⟨3, ![2, 128, 512]⟩ ⟨3, ![32, 128, 512]⟩ 0 16 c X (by decide) i))
    (B : Fin 32) (j : Fin 128) (e : Fin 512) : IsReal (X (ix3 B j e)) := by
  have := h (⟨B.val / 2, by omega⟩ : Fin 16) (ix3 (⟨B.val % 2, by omega⟩ : Fin 2) j e)
  rw [block_rows] at this
  have e : brow (⟨B.val / 2, by omega⟩ : Fin 16) (⟨B.val % 2, by omega⟩ : Fin 2) = B := Fin.ext (by show B.val / 2 * 2 + B.val % 2 = B.val; omega)
  rwa [e] at this

theorem real_cols (W : WW) (h : ∀ c i, IsReal (Layout.block ⟨2, ![512, 512]⟩ ⟨2, ![512, 8192]⟩ 1 16 c W (by decide) i))
    (e : Fin 512) (T : Fin 8192) : IsReal (W (ix2 e T)) := by
  have := h (⟨T.val / 512, by omega⟩ : Fin 16) (ix2 e (⟨T.val % 512, by omega⟩ : Fin 512))
  rw [block_cols] at this
  have e : wcol (⟨T.val / 512, by omega⟩ : Fin 16) (⟨T.val % 512, by omega⟩ : Fin 512) = T := Fin.ext (by show T.val / 512 * 512 + T.val % 512 = T.val; omega)
  rwa [e] at this

theorem eighth_real : IsReal (Ideal.ofBits .f32 0x3E000000#32) :=
  ⟨1 / 8, by simp [Ideal.ofBits, Ideal.ieee, -EReal.coe_mul]; norm_num⟩

theorem scores_real (X : XW) (WQ WK : WW) (hX : ∀ B j e, IsReal (X (ix3 B j e))) (hQ : ∀ e T, IsReal (WQ (ix2 e T)))
    (hK : ∀ e T, IsReal (WK (ix2 e T))) (B : Fin 32) (i : Fin 128) (T : Fin 8192) (j : Fin 128) :
    IsReal (Cert.ReferenceIdeal.Ring.scoreAt X WQ WK B i T j) :=
  (IsReal.sum _ fun e => (IsReal.sum _ fun f => (hX _ _ _).mul (hQ _ _)).mul (IsReal.sum _ fun f => (hX _ _ _).mul (hK _ _))).mul eighth_real

/-! ## The results -/

section
open Cert.KernelIdeal Cert.KernelIdeal.Ring

variable (m : (ℓ : Loc nD τ sig) → Buf (Elt Ideal) ℓ) (ρ : Dev nD → PrngReg) (X : XW) (WQ WK WV : WW) (WO : OW)
  (hx : ∀ c : Fin 16, xAt m ρ c = Layout.block ⟨3, ![2, 128, 512]⟩ ⟨3, ![32, 128, 512]⟩ 0 16 c X (by decide))
  (hq : ∀ c : Fin 16, wqAt m ρ c = Layout.block ⟨2, ![512, 512]⟩ ⟨2, ![512, 8192]⟩ 1 16 c WQ (by decide))
  (hk : ∀ c : Fin 16, wkAt m ρ c = Layout.block ⟨2, ![512, 512]⟩ ⟨2, ![512, 8192]⟩ 1 16 c WK (by decide))
  (hv : ∀ c : Fin 16, wvAt m ρ c = Layout.block ⟨2, ![512, 512]⟩ ⟨2, ![512, 8192]⟩ 1 16 c WV (by decide))
  (ho : ∀ c : Fin 16, woAt m ρ c = Layout.block ⟨2, ![512, 512]⟩ ⟨2, ![8192, 512]⟩ 0 16 c WO (by decide))

/-- A device's projected entry is the whole arrays'. -/
theorem proj_block (c d : Fin 16) (b : Fin 2) (j : Fin 128) (t : Fin 512) (W : WW) :
    projAt (Layout.block ⟨3, ![2, 128, 512]⟩ ⟨3, ![32, 128, 512]⟩ 0 16 c X (by decide)) (Layout.block ⟨2, ![512, 512]⟩ ⟨2, ![512, 8192]⟩ 1 16 d W (by decide)) b j t
      = Cert.ReferenceIdeal.Ring.projAt X W (brow c b) j (wcol d t) :=
  Finset.sum_congr rfl fun e _ => congrArg₂ (fun (a b : EReal) => a * b) (block_rows X c b j e) (block_cols W d e t)

include hx hq hk hv ho in
theorem outAt_eq (hs : ∀ B i T j, IsReal (Cert.ReferenceIdeal.Ring.scoreAt X WQ WK B i T j)) (c : Fin 16) :
    outAt m ρ c = Layout.block ⟨3, ![2, 128, 512]⟩ ⟨3, ![32, 128, 512]⟩ 0 16 c (Cert.ReferenceIdeal.Ring.result X WQ WK WV WO) (by decide) := by
  funext idx
  obtain ⟨b, i, n, rfl⟩ : ∃ (b : Fin 2) (i : Fin 128) (n : Fin 512), idx = ix3 b i n := ⟨_, _, _, eq_ix3 idx⟩
  rw [block_rows, Cert.ReferenceIdeal.Ring.result_apply _ _ _ _ _ _ _ _ (hs _ _), sum_cols, outAt_apply]
  refine Finset.sum_congr rfl fun d _ => ?_
  show slotOut (xAt m ρ c) (wqAt m ρ d) (wkAt m ρ d) (wvAt m ρ d) (woAt m ρ d) (ix3 b i n) = _
  rw [hx c, hq d, hk d, hv d, ho d, slotOut_apply]
  refine Finset.sum_congr rfl fun t _ => ?_
  have hcol : ∀ e : Fin 64, Cert.ReferenceIdeal.Ring.hcol (Cert.ReferenceIdeal.Ring.headOf (wcol d t)) e = wcol d (hcol t e) := fun e =>
    Fin.ext (by show 64 * ((d.val * 512 + t.val) / 64) + e.val = d.val * 512 + (64 * (t.val / 64) + e.val); omega)
  refine congrArg₂ (fun (a b : EReal) => a * b) (congrArg₂ att (funext fun j => ?_) (funext fun j => proj_block X c d b j t WV)) (block_orows WO d t n)
  refine congrArg (· * eighth) (Finset.sum_congr rfl fun e _ => ?_)
  rw [proj_block, proj_block, hcol]

end

end Cert.Compare

end
-- ==== Proof.lean ====
module

public import proofs.«01_k».proof.Defs
public import proofs.«01_k».proof.Proof.Run
public import proofs.«01_k».proof.Proof.BitsRun
public import proofs.«01_k».proof.Proof.Compare
public import proofs.«01_k».proof.Proof.Gen.ReferenceIdeal
public import proofs.«01_k».proof.Proof.Gen.ReferenceIdeal.Run
public import Idealize.ShloMosaic.Lib.Quiescent

/-
  The certificate. Both sides of the kernel, over bits and over extended reals, run as `Ring.run` says; the frames are
  those runs with the result left out. The reference is host code alone and has no semaphore. The results agree where the
  activations and the query and key weights are real numbers: `Compare.outAt_eq`.
-/

@[expose] public section

noncomputable section

namespace Cert.Proof

open Idealize.ShloMosaic Idealize.SL.Sem

/-- The kernel over bits ends, keeps its arguments and leaves every semaphore at zero. -/
theorem frame_bits : Cert.quiescent_Kernel (hKernel := Cert.Kernel.Gen.facts) := fun m g _ =>
  (θ_run _ _ _).mono (fun _ h => ⟨fun c => (h.1 c).2, h.2⟩) (Cert.Kernel.Ring.run (F := Bits) m g)

/-- So does the kernel over the extended reals. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Ring.run (F := Ideal) m g)

/-- So does the reference, which has no semaphore at all. -/
theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Device `c` ends with block `c` of the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Compare.facts_blocks) := by
  intro m g m' g' hpre hblk
  have hF : Cert.Pre_finite_KernelIdeal.Facts := Cert.Compare.facts_blocks
  have hfin := fun c => Cert.Compare.isReal_of_finite _ _ _ _ _ (hpre c)
  have hX := Cert.Compare.real_rows _ fun c i => (hblk c).1 ▸ (hfin c).1 i
  have hQ := Cert.Compare.real_cols _ fun c i => (hblk c).2.1 ▸ (hfin c).2.1 i
  have hK := Cert.Compare.real_cols _ fun c i => (hblk c).2.2.1 ▸ (hfin c).2.2 i
  have hout := Cert.Compare.outAt_eq m g _ _ _ _ _
    (fun c => (Cert.KernelIdeal.Ring.xAt_eq m g c).trans (hblk c).1)
    (fun c => (Cert.KernelIdeal.Ring.wqAt_eq m g c).trans (hblk c).2.1)
    (fun c => (Cert.KernelIdeal.Ring.wkAt_eq m g c).trans (hblk c).2.2.1)
    (fun c => (Cert.KernelIdeal.Ring.wvAt_eq m g c).trans (hblk c).2.2.2.1)
    (fun c => (Cert.KernelIdeal.Ring.woAt_eq m g c).trans (hblk c).2.2.2.2)
    (Cert.Compare.scores_real _ _ _ hX hQ hK)
  refine ⟨_, (θ_run _ _ _).mono (fun _ h c => ⟨(h.1 c).1.trans (hout c), (h.1 c).2⟩) (Cert.KernelIdeal.Ring.run (F := Ideal) m g),
    (θ_run _ _ _).mono (fun _ h => ⟨(h 0).1.trans (Cert.ReferenceIdeal.Ring.res_eq m' 0), (h 0).2⟩)
      (Cert.ReferenceIdeal.Value.run (F := Ideal) m' g')⟩

theorem claim : Cert.Claim := ⟨Cert.Kernel.Gen.facts, Cert.KernelIdeal.Gen.facts, Cert.ReferenceIdeal.Gen.facts,
  Cert.Compare.facts_blocks, Cert.Compare.facts_whole, frame_bits, frame_ideal, fun m g _ => frame_ideal m g trivial,
  frame_ref, fun m g _ => frame_ref m g trivial, trivial, algebraic⟩

end Cert.Proof

end
